-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_positive [hPre_finite_and_positive : Cert.Pre_finite_and_positive.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_positive [hPre_finite_and_positive : Cert.Pre_finite_and_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_KernelIdeal_pre_finite_and_positive [hKernelIdeal : Cert.KernelIdeal.Facts] [hPre_finite_and_positive : Cert.Pre_finite_and_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def quiescent_ReferenceIdeal_pre_finite_and_positive [hReferenceIdeal : Cert.ReferenceIdeal.Facts] [hPre_finite_and_positive : Cert.Pre_finite_and_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def preserves_Kernel_KernelIdeal : Prop :=
  True

def algebraic_KernelIdeal_ReferenceIdeal_pre_finite_and_positive [hKernelIdeal : Cert.KernelIdeal.Facts] [hReferenceIdeal : Cert.ReferenceIdeal.Facts] [hPre_finite_and_positive : Cert.Pre_finite_and_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_and_positive : Cert.Pre_finite_and_positive.Facts),
    quiescent_Kernel (hKernel := hKernel)
    ∧ quiescent_KernelIdeal (hKernelIdeal := hKernelIdeal)
    ∧ quiescent_KernelIdeal_pre_finite_and_positive (hKernelIdeal := hKernelIdeal) (hPre_finite_and_positive := hPre_finite_and_positive)
    ∧ quiescent_ReferenceIdeal (hReferenceIdeal := hReferenceIdeal)
    ∧ quiescent_ReferenceIdeal_pre_finite_and_positive (hReferenceIdeal := hReferenceIdeal) (hPre_finite_and_positive := hPre_finite_and_positive)
    ∧ preserves_Kernel_KernelIdeal
    ∧ algebraic_KernelIdeal_ReferenceIdeal_pre_finite_and_positive (hKernelIdeal := hKernelIdeal) (hReferenceIdeal := hReferenceIdeal) (hPre_finite_and_positive := hPre_finite_and_positive)
-- ==== Pre_finite_and_positive.lean ====
abbrev S8x256x64x64 : Shape := ⟨4, ![8, 256, 64, 64]⟩
abbrev S128x256x1x1 : Shape := ⟨4, ![128, 256, 1, 1]⟩
abbrev S128x256x3x3 : Shape := ⟨4, ![128, 256, 3, 3]⟩
abbrev S128x128x1x1 : Shape := ⟨4, ![128, 128, 1, 1]⟩
abbrev S128 : Shape := ⟨1, ![128]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S128x256x1x1 : S_.BroadcastsInDim S128x256x1x1 (![] : Fin 0 → Fin S128x256x1x1.rank)
  reducesTo_S128x256x1x1_S_d0_1_2_3 : S128x256x1x1.ReducesTo [0, 1, 2, 3] S_
  bcast_S_S128x256x3x3 : S_.BroadcastsInDim S128x256x3x3 (![] : Fin 0 → Fin S128x256x3x3.rank)
  reducesTo_S128x256x3x3_S_d0_1_2_3 : S128x256x3x3.ReducesTo [0, 1, 2, 3] S_
  bcast_S_S128x128x1x1 : S_.BroadcastsInDim S128x128x1x1 (![] : Fin 0 → Fin S128x128x1x1.rank)
  reducesTo_S128x128x1x1_S_d0_1_2_3 : S128x128x1x1.ReducesTo [0, 1, 2, 3] S_
  bcast_S_S128 : S_.BroadcastsInDim S128 (![] : Fin 0 → Fin S128.rank)
  reducesTo_S128_S_d0 : S128.ReducesTo [0] S_

variable [Facts]

def fn_part7 {F : FTy → Type} [FloatOps F] (main_arg25 : FVec F S128 .f32) (main_v117 : IVec S_ 1) : IVec S_ 1 :=
  let main_cst_48 : FVec F S_ .f32 := constant S_ .f32 0x3727C5AC#32
  let main_v118 : FVec F S128 .f32 := broadcastInDim S128 ![] bcast_S_S128 main_cst_48
  let main_v119 : FVec F S128 .f32 := addf main_arg25 main_v118
  let main_cst_49 : FVec F S_ .f32 := constant S_ .f32 0x00000000#32
  let main_v120 : FVec F S128 .f32 := broadcastInDim S128 ![] bcast_S_S128 main_cst_49
  let main_v121 : IVec S128 1 := cmpf .ogt main_v119 main_v120
  let main_c_50 : IVec S_ 1 := constantI S_ 1 1#1
  let main_v122 : IVec S_ 1 := (fun x v => Host.reduce IntOp.andi x v reducesTo_S128_S_d0 h_S_) main_v121 main_c_50
  let main_v123 : IVec S_ 1 := andi main_v117 main_v122
  main_v123

def fn_part6 {F : FTy → Type} [FloatOps F] (main_arg17 : FVec F S128 .f32) (main_arg21 : FVec F S128 .f32) (main_arg25 : FVec F S128 .f32) (main_v99 : IVec S_ 1) (main_v101 : FVec F S128 .f32) : IVec S_ 1 :=
  let main_cst_40 : FVec F S_ .f32 := constant S_ .f32 0x00000000#32
  let main_v102 : FVec F S128 .f32 := broadcastInDim S128 ![] bcast_S_S128 main_cst_40
  let main_v103 : IVec S128 1 := cmpf .ogt main_v101 main_v102
  let main_c_41 : IVec S_ 1 := constantI S_ 1 1#1
  let main_v104 : IVec S_ 1 := (fun x v => Host.reduce IntOp.andi x v reducesTo_S128_S_d0 h_S_) main_v103 main_c_41
  let main_v105 : IVec S_ 1 := andi main_v99 main_v104
  let main_cst_42 : FVec F S_ .f32 := constant S_ .f32 0x3727C5AC#32
  let main_v106 : FVec F S128 .f32 := broadcastInDim S128 ![] bcast_S_S128 main_cst_42
  let main_v107 : FVec F S128 .f32 := addf main_arg17 main_v106
  let main_cst_43 : FVec F S_ .f32 := constant S_ .f32 0x00000000#32
  let main_v108 : FVec F S128 .f32 := broadcastInDim S128 ![] bcast_S_S128 main_cst_43
  let main_v109 : IVec S128 1 := cmpf .ogt main_v107 main_v108
  let main_c_44 : IVec S_ 1 := constantI S_ 1 1#1
  let main_v110 : IVec S_ 1 := (fun x v => Host.reduce IntOp.andi x v reducesTo_S128_S_d0 h_S_) main_v109 main_c_44
  let main_v111 : IVec S_ 1 := andi main_v105 main_v110
  let main_cst_45 : FVec F S_ .f32 := constant S_ .f32 0x3727C5AC#32
  let main_v112 : FVec F S128 .f32 := broadcastInDim S128 ![] bcast_S_S128 main_cst_45
  let main_v113 : FVec F S128 .f32 := addf main_arg21 main_v112
  let main_cst_46 : FVec F S_ .f32 := constant S_ .f32 0x00000000#32
  let main_v114 : FVec F S128 .f32 := broadcastInDim S128 ![] bcast_S_S128 main_cst_46
  let main_v115 : IVec S128 1 := cmpf .ogt main_v113 main_v114
  let main_c_47 : IVec S_ 1 := constantI S_ 1 1#1
  let main_v116 : IVec S_ 1 := (fun x v => Host.reduce IntOp.andi x v reducesTo_S128_S_d0 h_S_) main_v115 main_c_47
  let main_v117 : IVec S_ 1 := andi main_v111 main_v116
  fn_part7 (F := F) main_arg25 main_v117

def fn_part5 {F : FTy → Type} [FloatOps F] (main_arg9 : FVec F S128 .f32) (main_arg13 : FVec F S128 .f32) (main_arg17 : FVec F S128 .f32) (main_arg21 : FVec F S128 .f32) (main_arg22 : FVec F S128 .f32) (main_arg25 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg22
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_cst_36 : FVec F S_ .f32 := constant S_ .f32 0x3727C5AC#32
  let main_v94 : FVec F S128 .f32 := broadcastInDim S128 ![] bcast_S_S128 main_cst_36
  let main_v95 : FVec F S128 .f32 := addf main_arg9 main_v94
  let main_cst_37 : FVec F S_ .f32 := constant S_ .f32 0x00000000#32
  let main_v96 : FVec F S128 .f32 := broadcastInDim S128 ![] bcast_S_S128 main_cst_37
  let main_v97 : IVec S128 1 := cmpf .ogt main_v95 main_v96
  let main_c_38 : IVec S_ 1 := constantI S_ 1 1#1
  let main_v98 : IVec S_ 1 := (fun x v => Host.reduce IntOp.andi x v reducesTo_S128_S_d0 h_S_) main_v97 main_c_38
  let main_v99 : IVec S_ 1 := andi main_v93 main_v98
  let main_cst_39 : FVec F S_ .f32 := constant S_ .f32 0x3727C5AC#32
  let main_v100 : FVec F S128 .f32 := broadcastInDim S128 ![] bcast_S_S128 main_cst_39
  let main_v101 : FVec F S128 .f32 := addf main_arg13 main_v100
  fn_part6 (F := F) main_arg17 main_arg21 main_arg25 main_v99 main_v101

def fn_part4 {F : FTy → Type} [FloatOps F] (main_arg9 : FVec F S128 .f32) (main_arg13 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg25 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg18
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg20
  let main_cst_32 : FVec F S_ .f32 := constant S_ .f32 0x7F800000#32
  fn_part5 (F := F) main_arg9 main_arg13 main_arg17 main_arg21 main_arg22 main_arg25 main_v83 main_v84 main_cst_32

def fn_part3 {F : FTy → Type} [FloatOps F] (main_arg9 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg25 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg9 main_arg13 main_arg16 main_arg17 main_arg18 main_arg19 main_arg20 main_arg21 main_arg22 main_arg25 main_v63 main_v67

def fn_part2 {F : FTy → Type} [FloatOps F] (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg25 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg9 main_arg12 main_arg13 main_arg14 main_arg15 main_arg16 main_arg17 main_arg18 main_arg19 main_arg20 main_arg21 main_arg22 main_arg25 main_v48 main_v49 main_v50

def fn_part1 {F : FTy → Type} [FloatOps F] (main_arg4 : FVec F S128x256x3x3 .f32) (main_arg5 : FVec F S128x128x1x1 .f32) (main_arg6 : FVec F S128 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg25 : FVec F S128 .f32) (main_v13 : IVec S_ 1) (main_v16 : IVec S128x256x3x3 1) : IVec S_ 1 :=
  let main_c_5 : IVec S_ 1 := constantI S_ 1 1#1
  let main_v17 : IVec S_ 1 := (fun x v => Host.reduce IntOp.andi x v reducesTo_S128x256x3x3_S_d0_1_2_3 h_S_) main_v16 main_c_5
  let main_v18 : IVec S_ 1 := andi main_v13 main_v17
  let main_v19 : FVec F S128x256x3x3 .f32 := Host.absf main_arg4
  let main_cst_6 : FVec F S_ .f32 := constant S_ .f32 0x7F800000#32
  let main_v20 : FVec F S128x256x3x3 .f32 := broadcastInDim S128x256x3x3 ![] bcast_S_S128x256x3x3 main_cst_6
  let main_v21 : IVec S128x256x3x3 1 := cmpf .olt main_v19 main_v20
  let main_c_7 : IVec S_ 1 := constantI S_ 1 1#1
  let main_v22 : IVec S_ 1 := (fun x v => Host.reduce IntOp.andi x v reducesTo_S128x256x3x3_S_d0_1_2_3 h_S_) main_v21 main_c_7
  let main_v23 : IVec S_ 1 := andi main_v18 main_v22
  let main_v24 : FVec F S128x128x1x1 .f32 := Host.absf main_arg5
  let main_cst_8 : FVec F S_ .f32 := constant S_ .f32 0x7F800000#32
  let main_v25 : FVec F S128x128x1x1 .f32 := broadcastInDim S128x128x1x1 ![] bcast_S_S128x128x1x1 main_cst_8
  let main_v26 : IVec S128x128x1x1 1 := cmpf .olt main_v24 main_v25
  let main_c_9 : IVec S_ 1 := constantI S_ 1 1#1
  let main_v27 : IVec S_ 1 := (fun x v => Host.reduce IntOp.andi x v reducesTo_S128x128x1x1_S_d0_1_2_3 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg25 main_v33

def fn {F : FTy → Type} [FloatOps F] (main_arg0 : FVec F S8x256x64x64 .f32) (main_arg1 : FVec F S128x256x1x1 .f32) (main_arg2 : FVec F S128x256x3x3 .f32) (main_arg3 : FVec F S128x256x3x3 .f32) (main_arg4 : FVec F S128x256x3x3 .f32) (main_arg5 : FVec F S128x128x1x1 .f32) (main_arg6 : FVec F S128 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_arg25 : FVec F S128 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S128x256x1x1 .f32 := Host.absf main_arg1
  let main_cst_0 : FVec F S_ .f32 := constant S_ .f32 0x7F800000#32
  let main_v5 : FVec F S128x256x1x1 .f32 := broadcastInDim S128x256x1x1 ![] bcast_S_S128x256x1x1 main_cst_0
  let main_v6 : IVec S128x256x1x1 1 := cmpf .olt main_v4 main_v5
  let main_c_1 : IVec S_ 1 := constantI S_ 1 1#1
  let main_v7 : IVec S_ 1 := (fun x v => Host.reduce IntOp.andi x v reducesTo_S128x256x1x1_S_d0_1_2_3 h_S_) main_v6 main_c_1
  let main_v8 : IVec S_ 1 := andi main_v3 main_v7
  let main_v9 : FVec F S128x256x3x3 .f32 := Host.absf main_arg2
  let main_cst_2 : FVec F S_ .f32 := constant S_ .f32 0x7F800000#32
  let main_v10 : FVec F S128x256x3x3 .f32 := broadcastInDim S128x256x3x3 ![] bcast_S_S128x256x3x3 main_cst_2
  let main_v11 : IVec S128x256x3x3 1 := cmpf .olt main_v9 main_v10
  let main_c_3 : IVec S_ 1 := constantI S_ 1 1#1
  let main_v12 : IVec S_ 1 := (fun x v => Host.reduce IntOp.andi x v reducesTo_S128x256x3x3_S_d0_1_2_3 h_S_) main_v11 main_c_3
  let main_v13 : IVec S_ 1 := andi main_v8 main_v12
  let main_v14 : FVec F S128x256x3x3 .f32 := Host.absf main_arg3
  let main_cst_4 : FVec F S_ .f32 := constant S_ .f32 0x7F800000#32
  let main_v15 : FVec F S128x256x3x3 .f32 := broadcastInDim S128x256x3x3 ![] bcast_S_S128x256x3x3 main_cst_4
  let main_v16 : IVec S128x256x3x3 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg25 main_v13 main_v16
-- ==== Kernel.lean ====
abbrev S8x256x64x64 : Shape := ⟨4, ![8, 256, 64, 64]⟩
abbrev S128x256x1x1 : Shape := ⟨4, ![128, 256, 1, 1]⟩
abbrev S128x256x3x3 : Shape := ⟨4, ![128, 256, 3, 3]⟩
abbrev S128x128x1x1 : Shape := ⟨4, ![128, 128, 1, 1]⟩
abbrev S128 : Shape := ⟨1, ![128]⟩
abbrev S8x256x4096 : Shape := ⟨3, ![8, 256, 4096]⟩
abbrev S_ : Shape := ⟨0, ![]⟩
abbrev S128x1x1x1 : Shape := ⟨4, ![128, 1, 1, 1]⟩
abbrev S128x256 : Shape := ⟨2, ![128, 256]⟩
abbrev S128x768 : Shape := ⟨2, ![128, 768]⟩
abbrev S384x768 : Shape := ⟨2, ![384, 768]⟩
abbrev S1152x768 : Shape := ⟨2, ![1152, 768]⟩
abbrev S1x128 : Shape := ⟨2, ![1, 128]⟩
abbrev S4x128 : Shape := ⟨2, ![4, 128]⟩
abbrev S4x128x1 : Shape := ⟨3, ![4, 128, 1]⟩
abbrev S4x128x128 : Shape := ⟨3, ![4, 128, 128]⟩
abbrev S128x128 : Shape := ⟨2, ![128, 128]⟩
abbrev S128x1 : Shape := ⟨2, ![128, 1]⟩
abbrev S8x4x128x4096 : Shape := ⟨4, ![8, 4, 128, 4096]⟩
abbrev S1x256x4096 : Shape := ⟨3, ![1, 256, 4096]⟩
abbrev S1x4x128x4096 : Shape := ⟨4, ![1, 4, 128, 4096]⟩
abbrev S256x6656 : Shape := ⟨2, ![256, 6656]⟩
abbrev S2304x4096 : Shape := ⟨2, ![2304, 4096]⟩
abbrev S256x1280 : Shape := ⟨2, ![256, 1280]⟩
abbrev S256x4096 : Shape := ⟨2, ![256, 4096]⟩
abbrev S1x4096 : Shape := ⟨2, ![1, 4096]⟩
abbrev S128x4096 : Shape := ⟨2, ![128, 4096]⟩
abbrev S1x128x1 : Shape := ⟨3, ![1, 128, 1]⟩
abbrev S1x1x128x4096 : Shape := ⟨4, ![1, 1, 128, 4096]⟩
abbrev S768x4096 : Shape := ⟨2, ![768, 4096]⟩
abbrev S384x4096 : Shape := ⟨2, ![384, 4096]⟩
abbrev S128x6 : Shape := ⟨2, ![128, 6]⟩
abbrev S128x4090 : Shape := ⟨2, ![128, 4090]⟩
abbrev S128x12 : Shape := ⟨2, ![128, 12]⟩
abbrev S128x4084 : Shape := ⟨2, ![128, 4084]⟩
abbrev S128x18 : Shape := ⟨2, ![128, 18]⟩
abbrev S128x4078 : Shape := ⟨2, ![128, 4078]⟩
abbrev S8x2x2x128x64x64 : Shape := ⟨6, ![8, 2, 2, 128, 64, 64]⟩
abbrev S8x128x64x2x64x2 : Shape := ⟨6, ![8, 128, 64, 2, 64, 2]⟩
abbrev S8x128x128x128 : Shape := ⟨4, ![8, 128, 128, 128]⟩

abbrev nBuf : Space → Nat
  | .hbm => 163
  | .vmem => 11
  | .smem => 0
  | _ => 0

abbrev hbmTy0_0 (i : Nat) : BufTy := match i % 128 with
  | 0 => ⟨S8x256x64x64, .f32⟩
  | 1 => ⟨S128x256x1x1, .f32⟩
  | 2 => ⟨S128x256x3x3, .f32⟩
  | 3 => ⟨S128x256x3x3, .f32⟩
  | 4 => ⟨S128x256x3x3, .f32⟩
  | 5 => ⟨S128x128x1x1, .f32⟩
  | 6 => ⟨S128, .f32⟩
  | 7 => ⟨S128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S128, .f32⟩
  | 24 => ⟨S128, .f32⟩
  | 25 => ⟨S128, .f32⟩
  | 26 => ⟨S8x256x4096, .f32⟩
  | 27 => ⟨S_, .f32⟩
  | 28 => ⟨S128, .f32⟩
  | 29 => ⟨S128, .f32⟩
  | 30 => ⟨S128, .f32⟩
  | 31 => ⟨S128, .f32⟩
  | 32 => ⟨S128x1x1x1, .f32⟩
  | 33 => ⟨S128x256x1x1, .f32⟩
  | 34 => ⟨S128x256x1x1, .f32⟩
  | 35 => ⟨S128, .f32⟩
  | 36 => ⟨S128, .f32⟩
  | 37 => ⟨S_, .f32⟩
  | 38 => ⟨S128, .f32⟩
  | 39 => ⟨S128, .f32⟩
  | 40 => ⟨S128, .f32⟩
  | 41 => ⟨S128, .f32⟩
  | 42 => ⟨S128x1x1x1, .f32⟩
  | 43 => ⟨S128x256x3x3, .f32⟩
  | 44 => ⟨S128x256x3x3, .f32⟩
  | 45 => ⟨S128, .f32⟩
  | 46 => ⟨S128, .f32⟩
  | 47 => ⟨S128x256x1x1, .f32⟩
  | 48 => ⟨S128x256, .f32⟩
  | 49 => ⟨S128x256x1x1, .f32⟩
  | 50 => ⟨S128x256, .f32⟩
  | 51 => ⟨S128x256x1x1, .f32⟩
  | 52 => ⟨S128x256, .f32⟩
  | 53 => ⟨S128x768, .f32⟩
  | 54 => ⟨S128x256x1x1, .f32⟩
  | 55 => ⟨S128x256, .f32⟩
  | 56 => ⟨S128x256x1x1, .f32⟩
  | 57 => ⟨S128x256, .f32⟩
  | 58 => ⟨S128x256x1x1, .f32⟩
  | 59 => ⟨S128x256, .f32⟩
  | 60 => ⟨S128x768, .f32⟩
  | 61 => ⟨S128x256x1x1, .f32⟩
  | 62 => ⟨S128x256, .f32⟩
  | 63 => ⟨S128x256x1x1, .f32⟩
  | 64 => ⟨S128x256, .f32⟩
  | 65 => ⟨S128x256x1x1, .f32⟩
  | 66 => ⟨S128x256, .f32⟩
  | 67 => ⟨S128x768, .f32⟩
  | 68 => ⟨S384x768, .f32⟩
  | 69 => ⟨S_, .f32⟩
  | 70 => ⟨S128, .f32⟩
  | 71 => ⟨S128, .f32⟩
  | 72 => ⟨S128, .f32⟩
  | 73 => ⟨S128, .f32⟩
  | 74 => ⟨S128x1x1x1, .f32⟩
  | 75 => ⟨S128x256x3x3, .f32⟩
  | 76 => ⟨S128x256x3x3, .f32⟩
  | 77 => ⟨S128, .f32⟩
  | 78 => ⟨S128, .f32⟩
  | 79 => ⟨S128x256x1x1, .f32⟩
  | 80 => ⟨S128x256, .f32⟩
  | 81 => ⟨S128x256x1x1, .f32⟩
  | 82 => ⟨S128x256, .f32⟩
  | 83 => ⟨S128x256x1x1, .f32⟩
  | 84 => ⟨S128x256, .f32⟩
  | 85 => ⟨S128x768, .f32⟩
  | 86 => ⟨S128x256x1x1, .f32⟩
  | 87 => ⟨S128x256, .f32⟩
  | 88 => ⟨S128x256x1x1, .f32⟩
  | 89 => ⟨S128x256, .f32⟩
  | 90 => ⟨S128x256x1x1, .f32⟩
  | 91 => ⟨S128x256, .f32⟩
  | 92 => ⟨S128x768, .f32⟩
  | 93 => ⟨S128x256x1x1, .f32⟩
  | 94 => ⟨S128x256, .f32⟩
  | 95 => ⟨S128x256x1x1, .f32⟩
  | 96 => ⟨S128x256, .f32⟩
  | 97 => ⟨S128x256x1x1, .f32⟩
  | 98 => ⟨S128x256, .f32⟩
  | 99 => ⟨S128x768, .f32⟩
  | 100 => ⟨S384x768, .f32⟩
  | 101 => ⟨S_, .f32⟩
  | 102 => ⟨S128, .f32⟩
  | 103 => ⟨S128, .f32⟩
  | 104 => ⟨S128, .f32⟩
  | 105 => ⟨S128, .f32⟩
  | 106 => ⟨S128x1x1x1, .f32⟩
  | 107 => ⟨S128x256x3x3, .f32⟩
  | 108 => ⟨S128x256x3x3, .f32⟩
  | 109 => ⟨S128, .f32⟩
  | 110 => ⟨S128, .f32⟩
  | 111 => ⟨S128x256x1x1, .f32⟩
  | 112 => ⟨S128x256, .f32⟩
  | 113 => ⟨S128x256x1x1, .f32⟩
  | 114 => ⟨S128x256, .f32⟩
  | 115 => ⟨S128x256x1x1, .f32⟩
  | 116 => ⟨S128x256, .f32⟩
  | 117 => ⟨S128x768, .f32⟩
  | 118 => ⟨S128x256x1x1, .f32⟩
  | 119 => ⟨S128x256, .f32⟩
  | 120 => ⟨S128x256x1x1, .f32⟩
  | 121 => ⟨S128x256, .f32⟩
  | 122 => ⟨S128x256x1x1, .f32⟩
  | 123 => ⟨S128x256, .f32⟩
  | 124 => ⟨S128x768, .f32⟩
  | 125 => ⟨S128x256x1x1, .f32⟩
  | 126 => ⟨S128x256, .f32⟩
  | 127 => ⟨S128x256x1x1, .f32⟩
  | _ => ⟨S8x256x64x64, .f32⟩

abbrev hbmTy0_1 (i : Nat) : BufTy := match i % 128 with
  | 0 => ⟨S128x256, .f32⟩
  | 1 => ⟨S128x256x1x1, .f32⟩
  | 2 => ⟨S128x256, .f32⟩
  | 3 => ⟨S128x768, .f32⟩
  | 4 => ⟨S384x768, .f32⟩
  | 5 => ⟨S1152x768, .f32⟩
  | 6 => ⟨S1152x768, .bf16⟩
  | 7 => ⟨S128x256, .f32⟩
  | 8 => ⟨S128x256, .bf16⟩
  | 9 => ⟨S1x128, .f32⟩
  | 10 => ⟨S1x128, .f32⟩
  | 11 => ⟨S1x128, .f32⟩
  | 12 => ⟨S1x128, .f32⟩
  | 13 => ⟨S4x128, .f32⟩
  | 14 => ⟨S4x128x1, .f32⟩
  | 15 => ⟨S4x128x128, .f32⟩
  | 16 => ⟨S_, .f32⟩
  | 17 => ⟨S128, .f32⟩
  | 18 => ⟨S128, .f32⟩
  | 19 => ⟨S128, .f32⟩
  | 20 => ⟨S128, .f32⟩
  | 21 => ⟨S128x128, .f32⟩
  | 22 => ⟨S128x1, .f32⟩
  | 23 => ⟨S128x128, .f32⟩
  | 24 => ⟨S128x128, .f32⟩
  | 25 => ⟨S128x128, .bf16⟩
  | 26 => ⟨S128, .f32⟩
  | 27 => ⟨S128, .f32⟩
  | 28 => ⟨S128x1, .f32⟩
  | 29 => ⟨S128x128, .f32⟩
  | 30 => ⟨S8x4x128x4096, .bf16⟩
  | 31 => ⟨S8x2x2x128x64x64, .bf16⟩
  | 32 => ⟨S8x128x64x2x64x2, .bf16⟩
  | 33 => ⟨S8x128x128x128, .bf16⟩
  | 34 => ⟨S8x128x128x128, .f32⟩
  | _ => ⟨S8x256x64x64, .f32⟩

abbrev hbmTy (i : Nat) : BufTy := match i / 128 with
  | 0 => hbmTy0_0 i
  | 1 => hbmTy0_1 i
  | _ => ⟨S8x256x64x64, .f32⟩

abbrev bufTy : (tb : Table) → Fin (tcTables nBuf tb) → BufTy
  | .hbm, ⟨i, _⟩ => hbmTy i
  | .local _ .vmem, ⟨0, _⟩ => ⟨S1x256x4096, .f32⟩
  | .local _ .vmem, ⟨1, _⟩ => ⟨S1x256x4096, .f32⟩
  | .local _ .vmem, ⟨2, _⟩ => ⟨S1152x768, .bf16⟩
  | .local _ .vmem, ⟨3, _⟩ => ⟨S128x256, .bf16⟩
  | .local _ .vmem, ⟨4, _⟩ => ⟨S4x128x128, .f32⟩
  | .local _ .vmem, ⟨5, _⟩ => ⟨S128x128, .bf16⟩
  | .local _ .vmem, ⟨6, _⟩ => ⟨S128x128, .f32⟩
  | .local _ .vmem, ⟨7, _⟩ => ⟨S1x4x128x4096, .bf16⟩
  | .local _ .vmem, ⟨8, _⟩ => ⟨S1x4x128x4096, .bf16⟩
  | .local _ .vmem, ⟨9, _⟩ => ⟨S256x6656, .bf16⟩
  | .local _ .vmem, ⟨10, _⟩ => ⟨S2304x4096, .bf16⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_1 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_2 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_3 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x256x64x64 : Shape := ⟨4, ![8, 256, 64, 64]⟩
abbrev S128x256x1x1 : Shape := ⟨4, ![128, 256, 1, 1]⟩
abbrev S128x256x3x3 : Shape := ⟨4, ![128, 256, 3, 3]⟩
abbrev S128x128x1x1 : Shape := ⟨4, ![128, 128, 1, 1]⟩
abbrev S128 : Shape := ⟨1, ![128]⟩
abbrev S128x256 : Shape := ⟨2, ![128, 256]⟩
abbrev S8x64x64x128 : Shape := ⟨4, ![8, 64, 64, 128]⟩
abbrev S8x128x64x64 : Shape := ⟨4, ![8, 128, 64, 64]⟩
abbrev S_ : Shape := ⟨0, ![]⟩
abbrev S1x128x1x1 : Shape := ⟨4, ![1, 128, 1, 1]⟩
abbrev S8x256x76x76 : Shape := ⟨4, ![8, 256, 76, 76]⟩
abbrev S8x76x76x128x3x3 : Shape := ⟨6, ![8, 76, 76, 128, 3, 3]⟩
abbrev S3x3x8x128x76x76 : Shape := ⟨6, ![3, 3, 8, 128, 76, 76]⟩
abbrev S1x1x8x128x64x64 : Shape := ⟨6, ![1, 1, 8, 128, 64, 64]⟩
abbrev S8x256x88x88 : Shape := ⟨4, ![8, 256, 88, 88]⟩
abbrev S8x88x88x128x3x3 : Shape := ⟨6, ![8, 88, 88, 128, 3, 3]⟩
abbrev S3x3x8x128x88x88 : Shape := ⟨6, ![3, 3, 8, 128, 88, 88]⟩
abbrev S8x256x100x100 : Shape := ⟨4, ![8, 256, 100, 100]⟩
abbrev S8x100x100x128x3x3 : Shape := ⟨6, ![8, 100, 100, 128, 3, 3]⟩
abbrev S3x3x8x128x100x100 : Shape := ⟨6, ![3, 3, 8, 128, 100, 100]⟩
abbrev S8x128x64x64x1 : Shape := ⟨5, ![8, 128, 64, 64, 1]⟩
abbrev S8x128x64x64x2 : Shape := ⟨5, ![8, 128, 64, 64, 2]⟩
abbrev S8x128x64x64x1x2 : Shape := ⟨6, ![8, 128, 64, 64, 1, 2]⟩
abbrev S8x128x64x64x2x2 : Shape := ⟨6, ![8, 128, 64, 64, 2, 2]⟩
abbrev S8x128x64x2x64x2 : Shape := ⟨6, ![8, 128, 64, 2, 64, 2]⟩
abbrev S8x128x128x128 : Shape := ⟨4, ![8, 128, 128, 128]⟩
abbrev S128x128 : Shape := ⟨2, ![128, 128]⟩

abbrev nBuf : Space → Nat
  | .hbm => 221
  | .vmem => 0
  | .smem => 0
  | _ => 0

abbrev hbmTy0_0 (i : Nat) : BufTy := match i % 128 with
  | 0 => ⟨S8x256x64x64, .f32⟩
  | 1 => ⟨S128x256x1x1, .f32⟩
  | 2 => ⟨S128x256x3x3, .f32⟩
  | 3 => ⟨S128x256x3x3, .f32⟩
  | 4 => ⟨S128x256x3x3, .f32⟩
  | 5 => ⟨S128x128x1x1, .f32⟩
  | 6 => ⟨S128, .f32⟩
  | 7 => ⟨S128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S128, .f32⟩
  | 24 => ⟨S128, .f32⟩
  | 25 => ⟨S128, .f32⟩
  | 26 => ⟨S128x256, .f32⟩
  | 27 => ⟨S8x64x64x128, .f32⟩
  | 28 => ⟨S8x128x64x64, .f32⟩
  | 29 => ⟨S_, .f32⟩
  | 30 => ⟨S128, .f32⟩
  | 31 => ⟨S128, .f32⟩
  | 32 => ⟨S128, .f32⟩
  | 33 => ⟨S128, .f32⟩
  | 34 => ⟨S1x128x1x1, .f32⟩
  | 35 => ⟨S1x128x1x1, .f32⟩
  | 36 => ⟨S8x128x64x64, .f32⟩
  | 37 => ⟨S8x128x64x64, .f32⟩
  | 38 => ⟨S8x128x64x64, .f32⟩
  | 39 => ⟨S8x128x64x64, .f32⟩
  | 40 => ⟨S1x128x1x1, .f32⟩
  | 41 => ⟨S8x128x64x64, .f32⟩
  | 42 => ⟨S8x128x64x64, .f32⟩
  | 43 => ⟨S_, .f32⟩
  | 44 => ⟨S8x128x64x64, .f32⟩
  | 45 => ⟨S8x128x64x64, .f32⟩
  | 46 => ⟨S_, .i32⟩
  | 47 => ⟨S_, .f32⟩
  | 48 => ⟨S8x256x76x76, .f32⟩
  | 49 => ⟨S8x76x76x128x3x3, .f32⟩
  | 50 => ⟨S3x3x8x128x76x76, .f32⟩
  | 51 => ⟨S1x1x8x128x64x64, .f32⟩
  | 52 => ⟨S8x128x64x64, .f32⟩
  | 53 => ⟨S1x1x8x128x64x64, .f32⟩
  | 54 => ⟨S8x128x64x64, .f32⟩
  | 55 => ⟨S8x128x64x64, .f32⟩
  | 56 => ⟨S1x1x8x128x64x64, .f32⟩
  | 57 => ⟨S8x128x64x64, .f32⟩
  | 58 => ⟨S8x128x64x64, .f32⟩
  | 59 => ⟨S1x1x8x128x64x64, .f32⟩
  | 60 => ⟨S8x128x64x64, .f32⟩
  | 61 => ⟨S8x128x64x64, .f32⟩
  | 62 => ⟨S1x1x8x128x64x64, .f32⟩
  | 63 => ⟨S8x128x64x64, .f32⟩
  | 64 => ⟨S8x128x64x64, .f32⟩
  | 65 => ⟨S1x1x8x128x64x64, .f32⟩
  | 66 => ⟨S8x128x64x64, .f32⟩
  | 67 => ⟨S8x128x64x64, .f32⟩
  | 68 => ⟨S1x1x8x128x64x64, .f32⟩
  | 69 => ⟨S8x128x64x64, .f32⟩
  | 70 => ⟨S8x128x64x64, .f32⟩
  | 71 => ⟨S1x1x8x128x64x64, .f32⟩
  | 72 => ⟨S8x128x64x64, .f32⟩
  | 73 => ⟨S8x128x64x64, .f32⟩
  | 74 => ⟨S1x1x8x128x64x64, .f32⟩
  | 75 => ⟨S8x128x64x64, .f32⟩
  | 76 => ⟨S8x128x64x64, .f32⟩
  | 77 => ⟨S_, .f32⟩
  | 78 => ⟨S128, .f32⟩
  | 79 => ⟨S128, .f32⟩
  | 80 => ⟨S128, .f32⟩
  | 81 => ⟨S128, .f32⟩
  | 82 => ⟨S1x128x1x1, .f32⟩
  | 83 => ⟨S1x128x1x1, .f32⟩
  | 84 => ⟨S8x128x64x64, .f32⟩
  | 85 => ⟨S8x128x64x64, .f32⟩
  | 86 => ⟨S8x128x64x64, .f32⟩
  | 87 => ⟨S8x128x64x64, .f32⟩
  | 88 => ⟨S1x128x1x1, .f32⟩
  | 89 => ⟨S8x128x64x64, .f32⟩
  | 90 => ⟨S8x128x64x64, .f32⟩
  | 91 => ⟨S_, .f32⟩
  | 92 => ⟨S8x128x64x64, .f32⟩
  | 93 => ⟨S8x128x64x64, .f32⟩
  | 94 => ⟨S_, .i32⟩
  | 95 => ⟨S_, .f32⟩
  | 96 => ⟨S8x256x88x88, .f32⟩
  | 97 => ⟨S8x88x88x128x3x3, .f32⟩
  | 98 => ⟨S3x3x8x128x88x88, .f32⟩
  | 99 => ⟨S1x1x8x128x64x64, .f32⟩
  | 100 => ⟨S8x128x64x64, .f32⟩
  | 101 => ⟨S1x1x8x128x64x64, .f32⟩
  | 102 => ⟨S8x128x64x64, .f32⟩
  | 103 => ⟨S8x128x64x64, .f32⟩
  | 104 => ⟨S1x1x8x128x64x64, .f32⟩
  | 105 => ⟨S8x128x64x64, .f32⟩
  | 106 => ⟨S8x128x64x64, .f32⟩
  | 107 => ⟨S1x1x8x128x64x64, .f32⟩
  | 108 => ⟨S8x128x64x64, .f32⟩
  | 109 => ⟨S8x128x64x64, .f32⟩
  | 110 => ⟨S1x1x8x128x64x64, .f32⟩
  | 111 => ⟨S8x128x64x64, .f32⟩
  | 112 => ⟨S8x128x64x64, .f32⟩
  | 113 => ⟨S1x1x8x128x64x64, .f32⟩
  | 114 => ⟨S8x128x64x64, .f32⟩
  | 115 => ⟨S8x128x64x64, .f32⟩
  | 116 => ⟨S1x1x8x128x64x64, .f32⟩
  | 117 => ⟨S8x128x64x64, .f32⟩
  | 118 => ⟨S8x128x64x64, .f32⟩
  | 119 => ⟨S1x1x8x128x64x64, .f32⟩
  | 120 => ⟨S8x128x64x64, .f32⟩
  | 121 => ⟨S8x128x64x64, .f32⟩
  | 122 => ⟨S1x1x8x128x64x64, .f32⟩
  | 123 => ⟨S8x128x64x64, .f32⟩
  | 124 => ⟨S8x128x64x64, .f32⟩
  | 125 => ⟨S_, .f32⟩
  | 126 => ⟨S128, .f32⟩
  | 127 => ⟨S128, .f32⟩
  | _ => ⟨S8x256x64x64, .f32⟩

abbrev hbmTy0_1 (i : Nat) : BufTy := match i % 128 with
  | 0 => ⟨S128, .f32⟩
  | 1 => ⟨S128, .f32⟩
  | 2 => ⟨S1x128x1x1, .f32⟩
  | 3 => ⟨S1x128x1x1, .f32⟩
  | 4 => ⟨S8x128x64x64, .f32⟩
  | 5 => ⟨S8x128x64x64, .f32⟩
  | 6 => ⟨S8x128x64x64, .f32⟩
  | 7 => ⟨S8x128x64x64, .f32⟩
  | 8 => ⟨S1x128x1x1, .f32⟩
  | 9 => ⟨S8x128x64x64, .f32⟩
  | 10 => ⟨S8x128x64x64, .f32⟩
  | 11 => ⟨S_, .f32⟩
  | 12 => ⟨S8x128x64x64, .f32⟩
  | 13 => ⟨S8x128x64x64, .f32⟩
  | 14 => ⟨S_, .i32⟩
  | 15 => ⟨S_, .f32⟩
  | 16 => ⟨S8x256x100x100, .f32⟩
  | 17 => ⟨S8x100x100x128x3x3, .f32⟩
  | 18 => ⟨S3x3x8x128x100x100, .f32⟩
  | 19 => ⟨S1x1x8x128x64x64, .f32⟩
  | 20 => ⟨S8x128x64x64, .f32⟩
  | 21 => ⟨S1x1x8x128x64x64, .f32⟩
  | 22 => ⟨S8x128x64x64, .f32⟩
  | 23 => ⟨S8x128x64x64, .f32⟩
  | 24 => ⟨S1x1x8x128x64x64, .f32⟩
  | 25 => ⟨S8x128x64x64, .f32⟩
  | 26 => ⟨S8x128x64x64, .f32⟩
  | 27 => ⟨S1x1x8x128x64x64, .f32⟩
  | 28 => ⟨S8x128x64x64, .f32⟩
  | 29 => ⟨S8x128x64x64, .f32⟩
  | 30 => ⟨S1x1x8x128x64x64, .f32⟩
  | 31 => ⟨S8x128x64x64, .f32⟩
  | 32 => ⟨S8x128x64x64, .f32⟩
  | 33 => ⟨S1x1x8x128x64x64, .f32⟩
  | 34 => ⟨S8x128x64x64, .f32⟩
  | 35 => ⟨S8x128x64x64, .f32⟩
  | 36 => ⟨S1x1x8x128x64x64, .f32⟩
  | 37 => ⟨S8x128x64x64, .f32⟩
  | 38 => ⟨S8x128x64x64, .f32⟩
  | 39 => ⟨S1x1x8x128x64x64, .f32⟩
  | 40 => ⟨S8x128x64x64, .f32⟩
  | 41 => ⟨S8x128x64x64, .f32⟩
  | 42 => ⟨S1x1x8x128x64x64, .f32⟩
  | 43 => ⟨S8x128x64x64, .f32⟩
  | 44 => ⟨S8x128x64x64, .f32⟩
  | 45 => ⟨S_, .f32⟩
  | 46 => ⟨S128, .f32⟩
  | 47 => ⟨S128, .f32⟩
  | 48 => ⟨S128, .f32⟩
  | 49 => ⟨S128, .f32⟩
  | 50 => ⟨S1x128x1x1, .f32⟩
  | 51 => ⟨S1x128x1x1, .f32⟩
  | 52 => ⟨S8x128x64x64, .f32⟩
  | 53 => ⟨S8x128x64x64, .f32⟩
  | 54 => ⟨S8x128x64x64, .f32⟩
  | 55 => ⟨S8x128x64x64, .f32⟩
  | 56 => ⟨S1x128x1x1, .f32⟩
  | 57 => ⟨S8x128x64x64, .f32⟩
  | 58 => ⟨S8x128x64x64, .f32⟩
  | 59 => ⟨S_, .f32⟩
  | 60 => ⟨S8x128x64x64, .f32⟩
  | 61 => ⟨S8x128x64x64, .f32⟩
  | 62 => ⟨S8x128x64x64x1, .f32⟩
  | 63 => ⟨S8x128x64x64x1, .f32⟩
  | 64 => ⟨S8x128x64x64x2, .f32⟩
  | 65 => ⟨S8x128x64x64x1, .f32⟩
  | 66 => ⟨S8x128x64x64x1, .f32⟩
  | 67 => ⟨S8x128x64x64x2, .f32⟩
  | 68 => ⟨S8x128x64x64x1x2, .f32⟩
  | 69 => ⟨S8x128x64x64x1x2, .f32⟩
  | 70 => ⟨S8x128x64x64x2x2, .f32⟩
  | 71 => ⟨S8x128x64x2x64x2, .f32⟩
  | 72 => ⟨S8x128x128x128, .f32⟩
  | 73 => ⟨S128x128, .f32⟩
  | 74 => ⟨S8x128x128x128, .f32⟩
  | 75 => ⟨S8x128x128x128, .f32⟩
  | 76 => ⟨S_, .f32⟩
  | 77 => ⟨S128, .f32⟩
  | 78 => ⟨S128, .f32⟩
  | 79 => ⟨S128, .f32⟩
  | 80 => ⟨S128, .f32⟩
  | 81 => ⟨S1x128x1x1, .f32⟩
  | 82 => ⟨S1x128x1x1, .f32⟩
  | 83 => ⟨S8x128x128x128, .f32⟩
  | 84 => ⟨S8x128x128x128, .f32⟩
  | 85 => ⟨S8x128x128x128, .f32⟩
  | 86 => ⟨S8x128x128x128, .f32⟩
  | 87 => ⟨S1x128x1x1, .f32⟩
  | 88 => ⟨S8x128x128x128, .f32⟩
  | 89 => ⟨S8x128x128x128, .f32⟩
  | 90 => ⟨S_, .f32⟩
  | 91 => ⟨S8x128x128x128, .f32⟩
  | 92 => ⟨S8x128x128x128, .f32⟩
  | _ => ⟨S8x256x64x64, .f32⟩

abbrev hbmTy (i : Nat) : BufTy := match i / 128 with
  | 0 => hbmTy0_0 i
  | 1 => hbmTy0_1 i
  | _ => ⟨S8x256x64x64, .f32⟩

abbrev bufTy : (tb : Table) → Fin (tcTables nBuf tb) → BufTy
  | .hbm, ⟨i, _⟩ => hbmTy i
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_call0_cst : Ref sig .tc := ⟨.hbm, 43, rfl⟩
abbrev main_call0_v0 : Ref sig .tc := ⟨.hbm, 44, rfl⟩
abbrev main_v16 : Ref sig .tc := ⟨.hbm, 45, rfl⟩
abbrev main_c : Ref sig .tc := ⟨.hbm, 46, rfl⟩
abbrev main_call1_v0 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_0 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_call2_cst : Ref sig .tc := ⟨.hbm, 91, rfl⟩
abbrev main_call2_v0 : Ref sig .tc := ⟨.hbm, 92, rfl⟩
abbrev main_v59 : Ref sig .tc := ⟨.hbm, 93, rfl⟩
abbrev main_c_1 : Ref sig .tc := ⟨.hbm, 94, rfl⟩
abbrev main_call3_v0 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_2 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_call4_cst : Ref sig .tc := ⟨.hbm, 139, rfl⟩
abbrev main_call4_v0 : Ref sig .tc := ⟨.hbm, 140, rfl⟩
abbrev main_v102 : Ref sig .tc := ⟨.hbm, 141, rfl⟩
abbrev main_c_3 : Ref sig .tc := ⟨.hbm, 142, rfl⟩
abbrev main_call5_v0 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_4 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_call6_cst : Ref sig .tc := ⟨.hbm, 187, rfl⟩
abbrev main_call6_v0 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_cst_5 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_call7_cst : Ref sig .tc := ⟨.hbm, 218, rfl⟩
abbrev main_call7_v0 : Ref sig .tc := ⟨.hbm, 219, rfl⟩
abbrev main_v173 : Ref sig .tc := ⟨.hbm, 220, rfl⟩

abbrev nD : Nat := 1
abbrev τ : Topo := Topo.v7x

variable {F : FTy → Type} [FloatOps F]
-- ==== Proof.Payload.lean ====
/-
  What the kernel's four output blocks hold at an index, as functions of the scratch rows and parameter blocks they are
  computed from: the products, the two column shifts with their masks, and the shared last two layers.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Val

open Cert.KernelIdeal Cert.KernelIdeal.Gen

/-- The last two layers at output channel `o`: bias and `max 0` on the accumulated channels, the pointwise product, and again
    bias and `max 0`. -/
def tail (wp : FVec Ideal S128x128 .bf16) (acc : Fin 128 → EReal) (b : FVec Ideal S1x128x1 .f32) (bp : FVec Ideal S128x1 .f32)
    (o : Fin 128) : EReal :=
  max ((∑ k : Fin 128, (wp (ix2 o k) : EReal) * max (acc k + (b (ix3 0 k 0) : EReal)) 0) + (bp (ix2 o 0) : EReal)) 0

/-- Row `r` of the product of a weight block with stacked rows, at column `p`. -/
def dotRow (w : FVec Ideal S384x768 .bf16) (st : FVec Ideal S768x4096 .bf16) (r : Fin 384) (p : Fin 4096) : EReal :=
  ∑ k : Fin 768, (w (ix2 r k) : EReal) * (st (ix2 k p) : EReal)

/-- A dilated branch's accumulated channel `k` at column `p`: the three column taps, the outer two read `d` columns away
    around the row and masked. -/
def branch (d : ℕ) (w : FVec Ideal S384x768 .bf16) (st : FVec Ideal S768x4096 .bf16) (ml mr : EReal)
    (p : Fin 4096) (k : Fin 128) : EReal :=
  dotRow w st ⟨k.val, by omega⟩ ⟨(p.val + (4096 - d)) % 4096, Nat.mod_lt _ (by decide)⟩ * ml
    + dotRow w st ⟨128 + k.val, by omega⟩ p
    + dotRow w st ⟨256 + k.val, by omega⟩ ⟨(p.val + d) % 4096, Nat.mod_lt _ (by decide)⟩ * mr

/-- A cyclic shift to the right by `d`, spelled as the two pieces it is glued from. -/
theorem roll_left (d : ℕ) (hd : d ≤ 4096) (F : Fin 4096 → EReal) (p : Fin 4096) :
    (if h : p.val < d then F ⟨4096 - d + p.val, by omega⟩ else F ⟨p.val - d, by omega⟩)
      = F ⟨(p.val + (4096 - d)) % 4096, Nat.mod_lt _ (by decide)⟩ := by
  split_ifs with h
  · exact congrArg F (Fin.ext (by simp only; rw [Nat.mod_eq_of_lt (by omega)]; omega))
  · exact congrArg F (Fin.ext (by simp only; omega))

/-- A cyclic shift to the left by `d`, spelled as the two pieces it is glued from. -/
theorem roll_right (d : ℕ) (hd : d ≤ 4096) (F : Fin 4096 → EReal) (p : Fin 4096) :
    (if h : p.val < 4096 - d then F ⟨d + p.val, by omega⟩ else F ⟨p.val - (4096 - d), by omega⟩)
      = F ⟨(p.val + d) % 4096, Nat.mod_lt _ (by decide)⟩ := by
  split_ifs with h
  · exact congrArg F (Fin.ext (by simp only; rw [Nat.mod_eq_of_lt (by omega)]; omega))
  · exact congrArg F (Fin.ext (by simp only; omega))

/-- The last two layers depend on the accumulated channels alone. -/
theorem tail_congr {wp : FVec Ideal S128x128 .bf16} {acc acc' : Fin 128 → EReal} {b : FVec Ideal S1x128x1 .f32}
    {bp : FVec Ideal S128x1 .f32} {o : Fin 128} (h : ∀ k, acc k = acc' k) : tail wp acc b bp o = tail wp acc' b bp o := by
  rw [show acc = acc' from funext h]

/-- A dilated branch with its shifts spelled as glued pieces. -/
theorem branch_eq (d : ℕ) (hd : d ≤ 4096) (w : FVec Ideal S384x768 .bf16) (st : FVec Ideal S768x4096 .bf16)
    (ml mr : EReal) (p : Fin 4096) (k : Fin 128) :
    branch d w st ml mr p k =
      (if h : p.val < d then dotRow w st ⟨k.val, by omega⟩ ⟨4096 - d + p.val, by omega⟩
          else dotRow w st ⟨k.val, by omega⟩ ⟨p.val - d, by omega⟩) * ml
        + dotRow w st ⟨128 + k.val, by omega⟩ p
        + (if h : p.val < 4096 - d then dotRow w st ⟨256 + k.val, by omega⟩ ⟨d + p.val, by omega⟩
          else dotRow w st ⟨256 + k.val, by omega⟩ ⟨p.val - (4096 - d), by omega⟩) * mr := by
  rw [roll_left d hd (fun q => dotRow w st ⟨k.val, by omega⟩ q), roll_right d hd (fun q => dotRow w st ⟨256 + k.val, by omega⟩ q)]
  rfl

/-- The undilated branch's block. -/
theorem pay27_eq (wp : FVec Ideal S128x128 .bf16) (w : FVec Ideal S128x256 .bf16) (st : FVec Ideal S256x4096 .bf16)
    (b : FVec Ideal S1x128x1 .f32) (bp : FVec Ideal S128x1 .f32) (o : Fin 128) (p : Fin 4096) :
    (k0_pay27 (F := Ideal) wp w st b bp (ix4 0 0 o p) : EReal)
      = tail wp (fun k => ∑ c : Fin 256, (w (ix2 k c) : EReal) * (st (ix2 c p) : EReal)) b bp o := by
  unfold tail
  pointwise [k0_pay27, k0_pay26]

/-- The block of the branch dilated by 6. -/
theorem pay30_eq (mr ml : FVec Ideal S1x4096 .f32) (wp : FVec Ideal S128x128 .bf16) (w : FVec Ideal S384x768 .bf16)
    (st : FVec Ideal S768x4096 .bf16) (b : FVec Ideal S1x128x1 .f32) (bp : FVec Ideal S128x1 .f32) (o : Fin 128) (p : Fin 4096) :
    (k0_pay30 mr (k0_pay26 wp) (k0_pay28 w st) (k0_pay29 ml w st) b bp (ix4 0 0 o p) : EReal)
      = tail wp (branch 6 w st (ml (ix2 0 p)) (mr (ix2 0 p)) p) b bp o := by
  rw [tail_congr (branch_eq 6 (by decide) w st (ml (ix2 0 p)) (mr (ix2 0 p)) p)]
  unfold tail dotRow
  pointwise [k0_pay30, k0_pay29, k0_pay28, k0_pay26]

/-- The block of the branch dilated by 12. -/
theorem pay36_eq (mr ml : FVec Ideal S1x4096 .f32) (wp : FVec Ideal S128x128 .bf16) (w : FVec Ideal S384x768 .bf16)
    (st : FVec Ideal S768x4096 .bf16) (b : FVec Ideal S1x128x1 .f32) (bp : FVec Ideal S128x1 .f32) (o : Fin 128) (p : Fin 4096) :
    (k0_pay36 mr (k0_pay26 wp) (k0_pay32 ml w st) (k0_pay34 w st) (k0_pay35 w st) b bp (ix4 0 0 o p) : EReal)
      = tail wp (branch 12 w st (ml (ix2 0 p)) (mr (ix2 0 p)) p) b bp o := by
  rw [tail_congr (branch_eq 12 (by decide) w st (ml (ix2 0 p)) (mr (ix2 0 p)) p)]
  unfold tail dotRow
  pointwise [k0_pay36, k0_pay35, k0_pay34, k0_pay33, k0_pay32, k0_pay31, k0_pay26]

/-- The block of the branch dilated by 18. -/
theorem pay1_eq (mr ml : FVec Ideal S1x4096 .f32) (wp : FVec Ideal S128x128 .bf16) (w : FVec Ideal S384x768 .bf16)
    (st : FVec Ideal S768x4096 .bf16) (b : FVec Ideal S1x128x1 .f32) (bp : FVec Ideal S128x1 .f32) (o : Fin 128) (p : Fin 4096) :
    (k0_pay1 (k0_pay26 wp) (k0_pay37 mr ml w st) b bp (ix4 0 0 o p) : EReal)
      = tail wp (branch 18 w st (ml (ix2 0 p)) (mr (ix2 0 p)) p) b bp o := by
  rw [tail_congr (branch_eq 18 (by decide) w st (ml (ix2 0 p)) (mr (ix2 0 p)) p)]
  unfold tail dotRow
  pointwise [k0_pay1, k0_pay37, k0_pay26]

/-- A column number reduced to its place in the row of 64. -/
theorem pay16_eq (p : Fin 4096) : k0_pay16 64#32 k0_pay14 k0_pay15 (ix2 0 p) = BitVec.ofNat 32 (p.val % 64) := by
  pointwise [k0_pay16, k0_pay14, k0_pay15]
  revert p
  decide +kernel

/-- The mask of the columns below 58. -/
theorem mask58 (p : Fin 4096) :
    (k0_pay17 (F := Ideal) 64#32 k0_pay14 k0_pay15 (ix2 0 p) : EReal) = if p.val % 64 < 58 then 1 else 0 := by
  pointwise [k0_pay17]
  rw [pay16_eq]
  word_cmp

/-- The mask of the columns from 6 on. -/
theorem mask6 (p : Fin 4096) : (k0_pay18 (F := Ideal) 64#32 k0_pay14 k0_pay15 (ix2 0 p) : EReal) = if 6 ≤ p.val % 64 then 1 else 0 := by
  pointwise [k0_pay18]
  rw [pay16_eq]
  word_cmp

/-- The mask of the columns below 52. -/
theorem mask52 (p : Fin 4096) : (k0_pay19 (F := Ideal) 64#32 k0_pay14 k0_pay15 (ix2 0 p) : EReal) = if p.val % 64 < 52 then 1 else 0 := by
  pointwise [k0_pay19]
  rw [pay16_eq]
  word_cmp

/-- The mask of the columns from 12 on. -/
theorem mask12 (p : Fin 4096) : (k0_pay20 (F := Ideal) 64#32 k0_pay14 k0_pay15 (ix2 0 p) : EReal) = if 12 ≤ p.val % 64 then 1 else 0 := by
  pointwise [k0_pay20]
  rw [pay16_eq]
  word_cmp

/-- The mask of the columns below 46. -/
theorem mask46 (p : Fin 4096) : (k0_pay21 (F := Ideal) 64#32 k0_pay14 k0_pay15 (ix2 0 p) : EReal) = if p.val % 64 < 46 then 1 else 0 := by
  pointwise [k0_pay21]
  rw [pay16_eq]
  word_cmp

/-- The mask of the columns from 18 on. -/
theorem mask18 (p : Fin 4096) : (k0_pay25 (F := Ideal) (k0_pay22 64#32 k0_pay14 k0_pay15) k0_pay23 k0_pay24 (ix2 0 p) : EReal) = if 18 ≤ p.val % 64 then 1 else 0 := by
  pointwise [k0_pay25, k0_pay22, k0_pay23, k0_pay24]
  rw [pay16_eq]
  word_cmp

end Cert.KernelIdeal.Val
end
-- ==== Proof.Scratch.lean ====
/-
  What the kernel's two scratch buffers hold once filled, and the block of the output one grid point writes, branch by branch.
-/
module

public import proofs.«01_k».proof.Proof.Payload

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable (m : (ℓ : Loc nD τ sig) → Buf (Elt Ideal) ℓ)

/-- Pieces that agree everywhere with one array leave that array. -/
theorem canon_eq {S : Shape} {e : EltTy} {Val : EltTy → Type} [∀ e, Nonempty (Val e)] (G : S.Idx → Val e)
    {L : List (View.Piece Val S e)} (h : ∀ y, View.canon L y = G y) : View.canon L = G := funext h

/-- The padded planes: 1280 zeros, the 4096 pixels, 1280 zeros, for each of the 256 channels. -/
def xs (x : FVec Ideal S1x256x4096 .f32) : FVec Ideal S256x6656 .bf16 := fun y =>
  if h : 1280 ≤ (y 1).val ∧ (y 1).val < 5376 then x (ix3 0 (y 0) ⟨(y 1).val - 1280, by omega⟩) else (0 : EReal)

/-- Where in the padded planes the `q`-th stacked copy starts. -/
def start (q : ℕ) : ℕ := 1280 + 384 * (q / 3 + 1) * (q % 3) - 384 * (q / 3 + 1)

theorem start_le {q : ℕ} (h : q < 9) : start q ≤ 2432 := by
  unfold start; interval_cases q <;> omega

/-- The nine stacked copies of the padded planes, each shifted by whole rows of pixels. -/
def stk (x : FVec Ideal S1x256x4096 .f32) : FVec Ideal S2304x4096 .bf16 := fun y =>
  xs x (ix2 ⟨(y 0).val % 256, Nat.mod_lt _ (by decide)⟩ ⟨start ((y 0).val / 256) + (y 1).val, by
    have h0 : (y 0).val < 2304 := (y 0).isLt
    have h1 : (y 1).val < 4096 := (y 1).isLt
    have := start_le (q := (y 0).val / 256) (by omega)
    omega⟩)

/-- A copy of 4096 columns of the padded planes is the stacked block whose start it is. -/
theorem stk_piece (x : FVec Ideal S1x256x4096 .f32) {off : ℕ} (q : ℕ) (hoff : start q = off)
    (inb : ∀ a, (![0, off] : Fin 2 → ℕ) a + (![256, 4096] : Fin 2 → ℕ) a ≤ S256x6656.size a) (z : S256x4096.Idx) (y : S2304x4096.Idx)
    (h0 : (y 0).val = 256 * q + (z 0).val) (h1 : (y 1).val = (z 1).val) :
    shapeCast S256x4096 (fun j => xs x ((Rect.unit (s := S256x6656) ![0, off] ![256, 4096] inb).idx j)) shapeCasts_S256x4096_S256x4096 z = stk x y := by
  refine (congrFun (shapeCast_self (s := S256x4096) _ _) z).trans ?_
  show xs x _ = _
  have hz : (z 0).val < 256 := (z 0).isLt
  unfold stk
  congr 1
  funext a
  apply Fin.ext
  match a with
  | 0 => show 0 + 1 * (z 0).val = (y 0).val % 256; omega
  | 1 =>
    have hq : (y 0).val / 256 = q := by omega
    show off + 1 * (z 1).val = start ((y 0).val / 256) + (y 1).val
    rw [hq, hoff]; omega

/-- The three stores of the padded planes reach every index. -/
theorem xs_cover (f : (Rect.unit (s := S256x6656) ![0, 1280] ![256, 4096] inb_S256x6656_S256x4096_0_1280).shape.Idx → Elt Ideal .bf16)
    (g : (Rect.unit (s := S256x6656) ![0, 5376] ![256, 1280] inb_S256x6656_S256x1280_0_5376).shape.Idx → Elt Ideal .bf16)
    (k : (Rect.unit (s := S256x6656) ![0, 0] ![256, 1280] inb_S256x6656_S256x1280_0_0).shape.Idx → Elt Ideal .bf16)
    (z : S256x6656.Idx) :
    ∃ p ∈ ([⟨_, f⟩, ⟨_, g⟩, ⟨_, k⟩] : List (View.Piece (Elt Ideal) S256x6656 .bf16)), z ∈ p.1.set := by
  have h1 : (z 1).val < 6656 := (z 1).isLt
  have h0 : (z 0).val < 256 := (z 0).isLt
  rcases lt_or_ge (z 1).val 1280 with h | h
  · refine ⟨⟨Rect.unit (s := S256x6656) ![0, 0] ![256, 1280] inb_S256x6656_S256x1280_0_0, k⟩, by simp, ?_⟩
    show z ∈ (Rect.unit (s := S256x6656) ![0, 0] ![256, 1280] inb_S256x6656_S256x1280_0_0).set
    refine Rect.mem_set_unit.mpr fun a => ?_
    match a with
    | 0 => exact ⟨Nat.zero_le _, by show (z 0).val < 0 + 256; omega⟩
    | 1 => exact ⟨Nat.zero_le _, by show (z 1).val < 0 + 1280; omega⟩
  rcases lt_or_ge (z 1).val 5376 with h' | h'
  · refine ⟨⟨Rect.unit (s := S256x6656) ![0, 1280] ![256, 4096] inb_S256x6656_S256x4096_0_1280, f⟩, by simp, ?_⟩
    show z ∈ (Rect.unit (s := S256x6656) ![0, 1280] ![256, 4096] inb_S256x6656_S256x4096_0_1280).set
    refine Rect.mem_set_unit.mpr fun a => ?_
    match a with
    | 0 => exact ⟨Nat.zero_le _, by show (z 0).val < 0 + 256; omega⟩
    | 1 => exact ⟨h, by show (z 1).val < 1280 + 4096; omega⟩
  · refine ⟨⟨Rect.unit (s := S256x6656) ![0, 5376] ![256, 1280] inb_S256x6656_S256x1280_0_5376, g⟩, by simp, ?_⟩
    show z ∈ (Rect.unit (s := S256x6656) ![0, 5376] ![256, 1280] inb_S256x6656_S256x1280_0_5376).set
    refine Rect.mem_set_unit.mpr fun a => ?_
    match a with
    | 0 => exact ⟨Nat.zero_le _, by show (z 0).val < 0 + 256; omega⟩
    | 1 => exact ⟨h', by show (z 1).val < 5376 + 1280; omega⟩

/-- The three stores leave the padded planes. -/
theorem xs_canon (x : FVec Ideal S1x256x4096 .f32) :
    View.canon (s := S256x6656) (e := .bf16) (Val := Elt Ideal)
      [⟨Rect.unit (s := S256x6656) ![0, 1280] ![256, 4096] inb_S256x6656_S256x4096_0_1280, k0_pay4 (F := Ideal) x⟩,
        ⟨Rect.unit (s := S256x6656) ![0, 5376] ![256, 1280] inb_S256x6656_S256x1280_0_5376, k0_pay3 (F := Ideal)⟩,
        ⟨Rect.unit (s := S256x6656) ![0, 0] ![256, 1280] inb_S256x6656_S256x1280_0_0, k0_pay2 (F := Ideal)⟩] = xs x := by
  funext z
  have hc := xs_cover (k0_pay4 (F := Ideal) x) (k0_pay3 (F := Ideal)) (k0_pay2 (F := Ideal)) z
  canon_tiles z h using hc
  · rename_i y
    obtain ⟨a, b, rfl⟩ : ∃ (a : Fin 256) (b : Fin 4096), z = ix2 a b := ⟨z 0, z 1, by funext a; match a with | 0 => rfl | 1 => rfl⟩
    change (y 0).val = a.val at h0
    change (y 1).val = 1280 + b.val at h1
    pointwise [k0_pay4]
    have ha : (y 0 : Fin 256) = a := Fin.ext h0
    have hb : (⟨(y 1).val - 1280, by omega⟩ : Fin 4096) = b := Fin.ext (by simp only; omega)
    rw [← ha, ← hb]
    have hin : 1280 ≤ (y 1).val ∧ (y 1).val < 5376 := by omega
    unfold xs
    rw [dif_pos hin]
  · rename_i y
    pointwise [k0_pay3]
    unfold xs
    rw [dif_neg (by omega)]
  · rename_i y
    pointwise [k0_pay2]
    unfold xs
    rw [dif_neg (by omega)]

/-- The nine stores leave the stacked copies. -/
theorem stk_canon (x : FVec Ideal S1x256x4096 .f32) :
    View.canon (s := S2304x4096) (e := .bf16) (Val := Elt Ideal)
      [⟨Rect.unit (s := S2304x4096) ![2048, 0] ![256, 4096] inb_S2304x4096_S256x4096_2048_0,
          k0_pay13 (F := Ideal) fun j => xs x ((Rect.unit (s := S256x6656) ![0, 2432] ![256, 4096] inb_S256x6656_S256x4096_0_2432).idx j)⟩,
        ⟨Rect.unit (s := S2304x4096) ![1792, 0] ![256, 4096] inb_S2304x4096_S256x4096_1792_0,
          k0_pay12 (F := Ideal) fun j => xs x ((Rect.unit (s := S256x6656) ![0, 1280] ![256, 4096] inb_S256x6656_S256x4096_0_1280).idx j)⟩,
        ⟨Rect.unit (s := S2304x4096) ![1536, 0] ![256, 4096] inb_S2304x4096_S256x4096_1536_0,
          k0_pay11 (F := Ideal) fun j => xs x ((Rect.unit (s := S256x6656) ![0, 128] ![256, 4096] inb_S256x6656_S256x4096_0_128).idx j)⟩,
        ⟨Rect.unit (s := S2304x4096) ![1280, 0] ![256, 4096] inb_S2304x4096_S256x4096_1280_0,
          k0_pay10 (F := Ideal) fun j => xs x ((Rect.unit (s := S256x6656) ![0, 2048] ![256, 4096] inb_S256x6656_S256x4096_0_2048).idx j)⟩,
        ⟨Rect.unit (s := S2304x4096) ![1024, 0] ![256, 4096] inb_S2304x4096_S256x4096_1024_0,
          k0_pay9 (F := Ideal) fun j => xs x ((Rect.unit (s := S256x6656) ![0, 1280] ![256, 4096] inb_S256x6656_S256x4096_0_1280).idx j)⟩,
        ⟨Rect.unit (s := S2304x4096) ![768, 0] ![256, 4096] inb_S2304x4096_S256x4096_768_0,
          k0_pay8 (F := Ideal) fun j => xs x ((Rect.unit (s := S256x6656) ![0, 512] ![256, 4096] inb_S256x6656_S256x4096_0_512).idx j)⟩,
        ⟨Rect.unit (s := S2304x4096) ![512, 0] ![256, 4096] inb_S2304x4096_S256x4096_512_0,
          k0_pay7 (F := Ideal) fun j => xs x ((Rect.unit (s := S256x6656) ![0, 1664] ![256, 4096] inb_S256x6656_S256x4096_0_1664).idx j)⟩,
        ⟨Rect.unit (s := S2304x4096) ![256, 0] ![256, 4096] inb_S2304x4096_S256x4096_256_0,
          k0_pay6 (F := Ideal) fun j => xs x ((Rect.unit (s := S256x6656) ![0, 1280] ![256, 4096] inb_S256x6656_S256x4096_0_1280).idx j)⟩,
        ⟨Rect.unit (s := S2304x4096) ![0, 0] ![256, 4096] inb_S2304x4096_S256x4096_0_0,
          k0_pay5 (F := Ideal) fun j => xs x ((Rect.unit (s := S256x6656) ![0, 896] ![256, 4096] inb_S256x6656_S256x4096_0_896).idx j)⟩] = stk x := by
  funext w
  canon_tiles w h
  · exact (stk_piece x 8 rfl inb_S256x6656_S256x4096_0_2432 _ _ (by omega) h1)
  · exact (stk_piece x 7 rfl inb_S256x6656_S256x4096_0_1280 _ _ (by omega) h1)
  · exact (stk_piece x 6 rfl inb_S256x6656_S256x4096_0_128 _ _ (by omega) h1)
  · exact (stk_piece x 5 rfl inb_S256x6656_S256x4096_0_2048 _ _ (by omega) h1)
  · exact (stk_piece x 4 rfl inb_S256x6656_S256x4096_0_1280 _ _ (by omega) h1)
  · exact (stk_piece x 3 rfl inb_S256x6656_S256x4096_0_512 _ _ (by omega) h1)
  · exact (stk_piece x 2 rfl inb_S256x6656_S256x4096_0_1664 _ _ (by omega) h1)
  · exact (stk_piece x 1 rfl inb_S256x6656_S256x4096_0_1280 _ _ (by omega) h1)
  · exact (stk_piece x 0 rfl inb_S256x6656_S256x4096_0_896 _ _ (by omega) h1)

end Cert.KernelIdeal.Val

end
-- ==== Proof.Fold.lean ====
/-
  The equation between the two programs, over extended reals and with no program in sight: a normalization after a
  convolution is the convolution by scaled weights plus a bias, wherever the numbers are finite.
-/
module

public import Idealize.ShloMosaic.PureOps.Ideal
public import Idealize.ShloMosaic.PureOps.Ideal.Laws

@[expose] public section

noncomputable section

namespace Cert.Fold

open Idealize.ShloMosaic

/-- The extended real is a real number. -/
def Fin' (x : EReal) : Prop := ∃ r : ℝ, x = (r : EReal)

/-- One plane stack padded by `d` zero rows and columns on each side, read at a padded position. -/
def padded (d : ℕ) (X : Fin 256 → Fin 64 → Fin 64 → EReal) (c : Fin 256) (I J : ℕ) : EReal :=
  if h : d ≤ I ∧ I < d + 64 ∧ d ≤ J ∧ J < d + 64 then X c ⟨I - d, by omega⟩ ⟨J - d, by omega⟩ else 0

/-- The last two layers at output channel `o`: bias and `max 0` on the accumulated channels, the pointwise product, and again
    bias and `max 0`. -/
def lastLayers (wp : Fin 128 → Fin 128 → EReal) (acc b bp : Fin 128 → EReal) (o : Fin 128) : EReal :=
  max ((∑ k : Fin 128, wp o k * max (acc k + b k) 0) + bp o) 0

/-- One tap of the reference's dilated convolution at a pixel. -/
def refTap (d : ℕ) (X : Fin 256 → Fin 64 → Fin 64 → EReal) (W : Fin 256 → Fin 3 → Fin 3 → EReal) (i j : Fin 64)
    (kh kw : Fin 3) : EReal :=
  ∑ c : Fin 256, padded d X c (i.val + d * kh.val) (j.val + d * kw.val) * W c kh kw

/-- The reference's dilated convolution at a pixel: its nine taps, row by row. -/
def refConv (d : ℕ) (X : Fin 256 → Fin 64 → Fin 64 → EReal) (W : Fin 256 → Fin 3 → Fin 3 → EReal) (i j : Fin 64) : EReal :=
  refTap d X W i j 0 0 + refTap d X W i j 0 1 + refTap d X W i j 0 2 + refTap d X W i j 1 0 + refTap d X W i j 1 1
    + refTap d X W i j 1 2 + refTap d X W i j 2 0 + refTap d X W i j 2 1 + refTap d X W i j 2 2

/-- The kernel's column of three taps, by scaled weights. -/
def kerCol (d : ℕ) (X : Fin 256 → Fin 64 → Fin 64 → EReal) (W : Fin 256 → Fin 3 → Fin 3 → EReal) (s : EReal) (i j : Fin 64)
    (kw : Fin 3) : EReal :=
  ∑ kh : Fin 3, ∑ c : Fin 256, W c kh kw * s * padded d X c (i.val + d * kh.val) (j.val + d * kw.val)

/-- The kernel's dilated convolution at a pixel: its three columns of taps. -/
def kerConv (d : ℕ) (X : Fin 256 → Fin 64 → Fin 64 → EReal) (W : Fin 256 → Fin 3 → Fin 3 → EReal) (s : EReal) (i j : Fin 64) : EReal :=
  kerCol d X W s i j 0 + kerCol d X W s i j 1 + kerCol d X W s i j 2

theorem Fin'.zero : Fin' 0 := ⟨0, rfl⟩
theorem Fin'.add {x y : EReal} : Fin' x → Fin' y → Fin' (x + y) := by
  rintro ⟨a, rfl⟩ ⟨b, rfl⟩; exact ⟨a + b, (EReal.coe_add a b).symm⟩
theorem Fin'.sub {x y : EReal} : Fin' x → Fin' y → Fin' (x - y) := by
  rintro ⟨a, rfl⟩ ⟨b, rfl⟩; exact ⟨a - b, (EReal.coe_sub a b).symm⟩
theorem Fin'.mul {x y : EReal} : Fin' x → Fin' y → Fin' (x * y) := by
  rintro ⟨a, rfl⟩ ⟨b, rfl⟩; exact ⟨a * b, (EReal.coe_mul a b).symm⟩
theorem Fin'.max {x y : EReal} : Fin' x → Fin' y → Fin' (max x y) := by
  rintro ⟨a, rfl⟩ ⟨b, rfl⟩; rcases max_choice (a : EReal) b with h | h <;> rw [h]
  · exact ⟨a, rfl⟩
  · exact ⟨b, rfl⟩
theorem coe_sum {ι : Type} (S : Finset ι) (f : ι → ℝ) : ∑ i ∈ S, (f i : EReal) = ((∑ i ∈ S, f i : ℝ) : EReal) := by
  classical
  induction S using Finset.induction_on with
  | empty => simp
  | insert a S h ih => rw [Finset.sum_insert h, Finset.sum_insert h, ih, EReal.coe_add]
theorem Fin'.sum {ι : Type} (S : Finset ι) {f : ι → EReal} (h : ∀ i, Fin' (f i)) : Fin' (∑ i ∈ S, f i) := by
  choose g hg using h
  exact ⟨∑ i ∈ S, g i, by rw [← coe_sum]; exact Finset.sum_congr rfl fun i _ => hg i⟩

/-- A padded plane stack of real numbers holds real numbers. -/
theorem padded_fin {d : ℕ} {X : Fin 256 → Fin 64 → Fin 64 → EReal} (hX : ∀ c i j, Fin' (X c i j)) (c : Fin 256) (I J : ℕ) :
    Fin' (padded d X c I J) := by
  unfold padded; split
  · exact hX _ _ _
  · exact .zero

theorem refTap_fin {d : ℕ} {X : Fin 256 → Fin 64 → Fin 64 → EReal} {W : Fin 256 → Fin 3 → Fin 3 → EReal}
    (hX : ∀ c i j, Fin' (X c i j)) (hW : ∀ c kh kw, Fin' (W c kh kw)) (i j : Fin 64) (kh kw : Fin 3) :
    Fin' (refTap d X W i j kh kw) :=
  .sum _ fun c => .mul (padded_fin hX _ _ _) (hW _ _ _)

/-- The reference's convolution of real numbers is a real number. -/
theorem refConv_fin {d : ℕ} {X : Fin 256 → Fin 64 → Fin 64 → EReal} {W : Fin 256 → Fin 3 → Fin 3 → EReal}
    (hX : ∀ c i j, Fin' (X c i j)) (hW : ∀ c kh kw, Fin' (W c kh kw)) (i j : Fin 64) : Fin' (refConv d X W i j) := by
  have h := fun kh kw => refTap_fin (d := d) hX hW i j kh kw
  exact ((((((((h 0 0).add (h 0 1)).add (h 0 2)).add (h 1 0)).add (h 1 1)).add (h 1 2)).add (h 2 0)).add (h 2 1)).add (h 2 2)

/-- A sum of products by scaled weights is the scaled sum of products. -/
theorem sum_scaled {n : ℕ} {P W : Fin n → EReal} {s : EReal} (hP : ∀ c, Fin' (P c)) (hW : ∀ c, Fin' (W c)) (hs : Fin' s) :
    ∑ c, W c * s * P c = (∑ c, P c * W c) * s := by
  choose p hp using hP
  choose w hw using hW
  obtain ⟨t, rfl⟩ := hs
  simp only [hp, hw, ← EReal.coe_mul, coe_sum]
  rw [Finset.sum_mul]
  exact congrArg _ (Finset.sum_congr rfl fun c _ => by ring)

/-- The kernel's convolution is the reference's, scaled. -/
theorem kerConv_eq {d : ℕ} {X : Fin 256 → Fin 64 → Fin 64 → EReal} {W : Fin 256 → Fin 3 → Fin 3 → EReal} {s : EReal}
    (hX : ∀ c i j, Fin' (X c i j)) (hW : ∀ c kh kw, Fin' (W c kh kw)) (hs : Fin' s) (i j : Fin 64) :
    kerConv d X W s i j = refConv d X W i j * s := by
  have hcol : ∀ kw, kerCol d X W s i j kw = ∑ kh : Fin 3, refTap d X W i j kh kw * s := fun kw =>
    Finset.sum_congr rfl fun kh _ => sum_scaled (fun c => padded_fin hX _ _ _) (fun c => hW _ _ _) hs
  have h := fun kh kw => refTap_fin (d := d) hX hW i j kh kw
  choose t ht using h
  obtain ⟨s, rfl⟩ := hs
  unfold kerConv refConv
  simp only [hcol, ht, Fin.sum_univ_three, ← EReal.coe_mul, ← EReal.coe_add]
  exact congrArg _ (by ring)

/-- Scaling, then adding the folded bias, is the normalization: any mean and bias, where the value and the scale are real. -/
theorem normalize {Z s : EReal} (hZ : Fin' Z) (hs : Fin' s) (b m : EReal) : Z * s + (b - m * s) = (Z - m) * s + b := by
  obtain ⟨z, rfl⟩ := hZ
  obtain ⟨s, rfl⟩ := hs
  have h : ((z : EReal) - m) * (s : EReal) = (z : EReal) * s - m * s := by
    induction m with
    | bot =>
      rw [show (z : EReal) - ⊥ = ⊤ from rfl]
      rcases lt_trichotomy s 0 with hs | rfl | hs
      · rw [EReal.top_mul_coe_of_neg hs, EReal.bot_mul_coe_of_neg hs, ← EReal.coe_mul]; rfl
      · simp
      · rw [EReal.top_mul_coe_of_pos hs, EReal.bot_mul_coe_of_pos hs, ← EReal.coe_mul]; rfl
    | top =>
      rw [show (z : EReal) - ⊤ = ⊥ from rfl]
      rcases lt_trichotomy s 0 with hs | rfl | hs
      · rw [EReal.top_mul_coe_of_neg hs, EReal.bot_mul_coe_of_neg hs, ← EReal.coe_mul]; rfl
      · simp
      · rw [EReal.top_mul_coe_of_pos hs, EReal.bot_mul_coe_of_pos hs, ← EReal.coe_mul]; rfl
    | coe m => simp only [← EReal.coe_mul, ← EReal.coe_sub]; exact congrArg _ (by ring)
  rw [h, sub_eq_add_neg, sub_eq_add_neg, add_assoc, add_comm b]

/-- The reciprocal square root of a positive extended real is a real number. -/
theorem rsqrt_fin {x : EReal} (hx : 0 < x) : Fin' (Ideal.rsqrt x) := by
  induction x with
  | bot => exact absurd hx (by simp)
  | top => exact ⟨0, rfl⟩
  | coe r =>
    have hr : 0 < r := by exact_mod_cast hx
    rw [Ideal.rsqrt_coe, if_neg (not_lt.2 hr.le), if_neg hr.ne']
    exact ⟨_, rfl⟩

end Cert.Fold
-- ==== Proof.Block.lean ====
/-
  One grid point's output block in closed form: every branch is the convolution of the padded planes by the branch's weights,
  followed by the shared last layers.
-/
module

public import proofs.«01_k».proof.Proof.Scratch
public import proofs.«01_k».proof.Proof.Fold

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.Fold

/-- The planes of one image by row and column. -/
def plane (x : FVec Ideal S1x256x4096 .f32) (c : Fin 256) (i j : Fin 64) : EReal :=
  x (ix3 0 c ⟨64 * i.val + j.val, by omega⟩)

/-- A padded-plane column that lies `e` rows and `g - d` columns from a pixel is the padded plane there. -/
theorem xs_padded (x : FVec Ideal S1x256x4096 .f32) (d e g : ℕ) (hd : d ≤ 20) (he : e ≤ 2 * d) (c : Fin 256) (i j : Fin 64)
    (hg : d ≤ j.val + g ∧ j.val + g < d + 64) (n : Fin 6656) (hn : n.val + 64 * d + d = 1280 + 64 * e + (64 * i.val + j.val + g)) :
    (xs x (ix2 c n) : EReal) = padded d (plane x) c (i.val + e) (j.val + g) := by
  unfold xs padded plane
  show (if h : 1280 ≤ n.val ∧ n.val < 5376 then x (ix3 0 c ⟨n.val - 1280, by omega⟩) else (0 : EReal)) = _
  by_cases h : 1280 ≤ n.val ∧ n.val < 5376
  · rw [dif_pos h, dif_pos (by omega)]
    exact congrArg (fun q => x (ix3 0 c q)) (Fin.ext (by simp only; omega))
  · rw [dif_neg h, dif_neg (by omega)]

/-- A dilated branch of the kernel is the convolution by its weights. -/
theorem branch_value (d : ℕ) (hd : d ≤ 20) (x : FVec Ideal S1x256x4096 .f32) (w : FVec Ideal S384x768 .bf16)
    (st : FVec Ideal S768x4096 .bf16)
    (hst : ∀ (kh : Fin 3) (c : Fin 256) (q : Fin 4096), (st (ix2 ⟨kh.val * 256 + c.val, by omega⟩ q) : EReal)
      = xs x (ix2 c ⟨1280 - 64 * d + 64 * (d * kh.val) + q.val, by
          have : d * kh.val ≤ d * 2 := Nat.mul_le_mul_left d (by omega)
          omega⟩))
    (p : Fin 4096) (k : Fin 128) :
    branch d w st (if d ≤ p.val % 64 then 1 else 0) (if p.val % 64 < 64 - d then 1 else 0) p k
      = kerConv d (plane x) (fun c kh kw => w (ix2 ⟨128 * kw.val + k.val, by omega⟩ ⟨kh.val * 256 + c.val, by omega⟩)) 1
          ⟨p.val / 64, by omega⟩ ⟨p.val % 64, by omega⟩ := by
  have row : ∀ (kw : Fin 3) (q : Fin 4096), d ≤ p.val % 64 + d * kw.val → p.val % 64 + d * kw.val < d + 64 →
      q.val + d = p.val + d * kw.val →
      dotRow w st ⟨128 * kw.val + k.val, by omega⟩ q
        = kerCol d (plane x) (fun c kh kw => w (ix2 ⟨128 * kw.val + k.val, by omega⟩ ⟨kh.val * 256 + c.val, by omega⟩)) 1
            ⟨p.val / 64, by omega⟩ ⟨p.val % 64, by omega⟩ kw := by
    intro kw q h1 h2 hq
    unfold dotRow kerCol
    rw [Fin.sum_univ_tiles 3 256 rfl]
    refine Finset.sum_congr rfl fun kh _ => Finset.sum_congr rfl fun c _ => ?_
    have hk : d * kh.val ≤ d * 2 := Nat.mul_le_mul_left d (by omega)
    rw [hst kh c q, mul_one, xs_padded x d (d * kh.val) (d * kw.val) hd (by omega) c ⟨p.val / 64, by omega⟩ ⟨p.val % 64, by omega⟩
      ⟨h1, h2⟩ _ (by simp only; omega)]
  have zero : ∀ kw : Fin 3, ¬ (d ≤ p.val % 64 + d * kw.val ∧ p.val % 64 + d * kw.val < d + 64) →
      kerCol d (plane x) (fun c kh kw => w (ix2 ⟨128 * kw.val + k.val, by omega⟩ ⟨kh.val * 256 + c.val, by omega⟩)) 1
            ⟨p.val / 64, by omega⟩ ⟨p.val % 64, by omega⟩ kw = 0 := by
    intro kw h
    unfold kerCol
    refine Finset.sum_eq_zero fun kh _ => Finset.sum_eq_zero fun c _ => ?_
    rw [show padded d (plane x) c _ _ = 0 from dif_neg (by simp only; omega), mul_zero]
  unfold branch kerConv
  congr 1
  · congr 1
    · split_ifs with h
      · rw [mul_one, ← row 0 ⟨(p.val + (4096 - d)) % 4096, Nat.mod_lt _ (by decide)⟩ (by simpa using h) (by simp; omega) (by simp only; simp; omega)]
        congr 1
        exact Fin.ext (by simp)
      · rw [mul_zero, zero 0 (by simp; omega)]
    · rw [← row 1 p (by simp) (by simp; omega) (by simp)]
      rfl
  · split_ifs with h
    · rw [mul_one, ← row 2 ⟨(p.val + d) % 4096, Nat.mod_lt _ (by decide)⟩ (by simp; omega) (by simp; omega) (by simp only; simp; omega)]
      rfl
    · rw [mul_zero, zero 2 (by simp; omega)]

/-- The accumulated channel `k` of branch `br` at column `p`, before its bias. -/
def accum (x : FVec Ideal S1x256x4096 .f32) (wtb : FVec Ideal S1152x768 .bf16) (w0 : FVec Ideal S128x256 .bf16) (br : Fin 4)
    (p : Fin 4096) (k : Fin 128) : EReal :=
  if h : br.val = 0 then ∑ c : Fin 256, (w0 (ix2 k c) : EReal) * plane x c ⟨p.val / 64, by omega⟩ ⟨p.val % 64, by omega⟩
  else kerConv (6 * br.val) (plane x)
    (fun c kh kw => wtb (ix2 ⟨384 * (br.val - 1) + (128 * kw.val + k.val), by omega⟩ ⟨kh.val * 256 + c.val, by omega⟩)) 1
    ⟨p.val / 64, by omega⟩ ⟨p.val % 64, by omega⟩

/-- The output block of one grid point, from the blocks it reads. -/
def blockVal (x : FVec Ideal S1x256x4096 .f32) (wtb : FVec Ideal S1152x768 .bf16) (w0 : FVec Ideal S128x256 .bf16)
    (bb : FVec Ideal S4x128x128 .f32) (wp : FVec Ideal S128x128 .bf16) (bp : FVec Ideal S128x128 .f32) (br : Fin 4) (o : Fin 128)
    (p : Fin 4096) : EReal :=
  lastLayers (fun o k => wp (ix2 o k)) (accum x wtb w0 br p) (fun k => bb (ix3 br k 0)) (fun o => bp (ix2 o 0)) o

/-- The last layers over loaded bias columns. -/
theorem tail_ld (bb : FVec Ideal S4x128x128 .f32) (wp : FVec Ideal S128x128 .bf16) (bp : FVec Ideal S128x128 .f32) (br : Fin 4)
    (inb : ∀ a, (![br.val, 0, 0] : Fin 3 → ℕ) a + (![1, 128, 1] : Fin 3 → ℕ) a ≤ S4x128x128.size a)
    (inb' : ∀ a, (![0, 0] : Fin 2 → ℕ) a + (![128, 1] : Fin 2 → ℕ) a ≤ S128x128.size a) (acc acc' : Fin 128 → EReal)
    (h : ∀ k, acc k = acc' k) (o : Fin 128) :
    tail wp acc (fun j => bb ((Rect.unit (s := S4x128x128) ![br.val, 0, 0] ![1, 128, 1] inb).idx j))
        (fun j => bp ((Rect.unit (s := S128x128) ![0, 0] ![128, 1] inb').idx j)) o
      = lastLayers (fun o k => wp (ix2 o k)) acc' (fun k => bb (ix3 br k 0)) (fun o => bp (ix2 o 0)) o := by
  have e1 : ∀ k : Fin 128, (fun j => bb ((Rect.unit (s := S4x128x128) ![br.val, 0, 0] ![1, 128, 1] inb).idx j)) (ix3 0 k 0) = bb (ix3 br k 0) := by
    intro k
    refine congrArg bb (funext fun a => Fin.ext ?_)
    match a with
    | 0 => show br.val + 1 * 0 = br.val; omega
    | 1 => show 0 + 1 * k.val = k.val; omega
    | 2 => rfl
  have e2 : ∀ k : Fin 128, (fun j => bp ((Rect.unit (s := S128x128) ![0, 0] ![128, 1] inb').idx j)) (ix2 k 0) = bp (ix2 k 0) := by
    intro k
    refine congrArg bp (funext fun a => Fin.ext ?_)
    match a with
    | 0 => show 0 + 1 * k.val = k.val; omega
    | 1 => rfl
  unfold tail lastLayers
  rw [e2 o]
  refine congrArg (fun z => max (z + _) 0) (Finset.sum_congr rfl fun k _ => ?_)
  rw [e1 k, h k]

/-- The padded planes at a stacked row. -/
theorem stk_row (x : FVec Ideal S1x256x4096 .f32) (b : ℕ) (hb : b < 3) (kh : Fin 3) (c : Fin 256) (q : Fin 4096) (r : Fin 2304)
    (hr : r.val = 768 * b + (kh.val * 256 + c.val)) (n : Fin 6656) (hn : n.val = 1280 - 64 * (6 * (b + 1)) + 64 * (6 * (b + 1) * kh.val) + q.val) :
    stk x (ix2 r q) = xs x (ix2 c n) := by
  unfold stk
  refine congrArg (xs x) ?_
  have hq : r.val / 256 = 3 * b + kh.val := by omega
  funext a
  apply Fin.ext
  match a with
  | 0 => show r.val % 256 = c.val; omega
  | 1 =>
    show start (r.val / 256) + q.val = n.val
    rw [hq, hn]
    unfold start
    have h1 : (3 * b + kh.val) / 3 = b := by omega
    have h2 : (3 * b + kh.val) % 3 = kh.val := by omega
    rw [h1, h2]
    generalize kh.val = t
    interval_cases b <;> omega

/-- A dilated branch's block over loaded weights and stacked rows. -/
theorem dilated (x : FVec Ideal S1x256x4096 .f32) (wtb : FVec Ideal S1152x768 .bf16) (w0 : FVec Ideal S128x256 .bf16) (br : Fin 4)
    (hbr : br.val ≠ 0) {d ow os : ℕ} (hd : 6 * br.val = d) (how : 384 * (br.val - 1) = ow) (hos : 768 * (br.val - 1) = os)
    (inb : ∀ a, (![ow, 0] : Fin 2 → ℕ) a + (![384, 768] : Fin 2 → ℕ) a ≤ S1152x768.size a)
    (inb' : ∀ a, (![os, 0] : Fin 2 → ℕ) a + (![768, 4096] : Fin 2 → ℕ) a ≤ S2304x4096.size a)
    (p : Fin 4096) (k : Fin 128) (ml mr : EReal) (hml : ml = if d ≤ p.val % 64 then 1 else 0)
    (hmr : mr = if p.val % 64 < 64 - d then 1 else 0) :
    branch d (fun j => wtb ((Rect.unit (s := S1152x768) ![ow, 0] ![384, 768] inb).idx j))
        (fun j => stk x ((Rect.unit (s := S2304x4096) ![os, 0] ![768, 4096] inb').idx j)) ml mr p k = accum x wtb w0 br p k := by
  subst hml hmr
  rw [branch_value d (by omega) x]
  · unfold accum
    rw [dif_neg hbr, hd]
    congr 1
    funext c kh kw
    refine congrArg wtb (funext fun a => Fin.ext ?_)
    match a with
    | 0 => show ow + 1 * (128 * kw.val + k.val) = 384 * (br.val - 1) + (128 * kw.val + k.val); omega
    | 1 => show 0 + 1 * (kh.val * 256 + c.val) = kh.val * 256 + c.val; omega
  · intro kh c q
    have hix : (Rect.unit (s := S2304x4096) ![os, 0] ![768, 4096] inb').idx (ix2 ⟨kh.val * 256 + c.val, by omega⟩ q)
        = ix2 ⟨os + (kh.val * 256 + c.val), by omega⟩ q := by
      funext a
      apply Fin.ext
      match a with
      | 0 => show os + 1 * (kh.val * 256 + c.val) = os + (kh.val * 256 + c.val); omega
      | 1 => show 0 + 1 * q.val = q.val; omega
    show stk x ((Rect.unit (s := S2304x4096) ![os, 0] ![768, 4096] inb').idx (ix2 ⟨kh.val * 256 + c.val, by omega⟩ q)) = _
    rw [hix]
    refine stk_row x (br.val - 1) (by omega) kh c q _ (by simp only; omega) _ ?_
    have hd' : 6 * (br.val - 1 + 1) = d := by omega
    rw [hd']

/-- The undilated branch's block over loaded weights and stacked rows. -/
theorem undilated (x : FVec Ideal S1x256x4096 .f32) (wtb : FVec Ideal S1152x768 .bf16) (w0 : FVec Ideal S128x256 .bf16)
    (inb : ∀ a, (![256, 0] : Fin 2 → ℕ) a + (![256, 4096] : Fin 2 → ℕ) a ≤ S2304x4096.size a) (p : Fin 4096) (k : Fin 128) :
    (∑ c : Fin 256, (w0 (ix2 k c) : EReal)
        * (stk x ((Rect.unit (s := S2304x4096) ![256, 0] ![256, 4096] inb).idx (ix2 c p)) : EReal)) = accum x wtb w0 0 p k := by
  unfold accum
  rw [dif_pos (show (0 : Fin 4).val = 0 from rfl)]
  refine Finset.sum_congr rfl fun c _ => ?_
  have hix : (Rect.unit (s := S2304x4096) ![256, 0] ![256, 4096] inb).idx (ix2 c p) = ix2 ⟨256 + c.val, by omega⟩ p := by
    funext a
    apply Fin.ext
    match a with
    | 0 => show 256 + 1 * c.val = 256 + c.val; omega
    | 1 => show 0 + 1 * p.val = p.val; omega
  rw [hix, stk_row x 0 (by decide) 1 c p ⟨256 + c.val, by omega⟩ (by simp) ⟨1280 + p.val, by omega⟩ (by simp)]
  rw [xs_padded x 0 0 0 (by decide) (by decide) c ⟨p.val / 64, by omega⟩ ⟨p.val % 64, by omega⟩ (by simp; omega) _ (by simp only; omega)]
  unfold padded
  rw [dif_pos (by simp only; omega)]
  rfl

/-- The closed form at an index given by its coordinates. -/
theorem blockVal_at {x : FVec Ideal S1x256x4096 .f32} {wtb : FVec Ideal S1152x768 .bf16} {w0 : FVec Ideal S128x256 .bf16}
    {bb : FVec Ideal S4x128x128 .f32} {wp : FVec Ideal S128x128 .bf16} {bp : FVec Ideal S128x128 .f32} (y : S1x4x128x4096.Idx)
    (br : Fin 4) (o : Fin 128) (p : Fin 4096) (h1 : (y 1).val = br.val) (h2 : (y 2).val = o.val) (h3 : (y 3).val = p.val) {e : EReal}
    (h : e = blockVal x wtb w0 bb wp bp br o p) : e = blockVal x wtb w0 bb wp bp (y 1) (y 2) (y 3) := by
  rw [h, show y 1 = br from Fin.ext h1, show y 2 = o from Fin.ext h2, show y 3 = p from Fin.ext h3]

variable (m : (ℓ : Loc nD τ sig) → Buf (Elt Ideal) ℓ)

/-- What one grid point writes. -/
theorem outs_eq (c : Dev nD) (t : Fin cfg0.N) (y : S1x4x128x4096.Idx) :
    (outsAt0 m c t y : EReal)
      = blockVal (iblk m c 0 t) (iblk m c 1 t) (iblk m c 2 t) (iblk m c 3 t) (iblk m c 4 t) (iblk m c 5 t) (y 1) (y 2) (y 3) := by
  unfold outsAt0
  frame_open
  simp only [View.readCov_eq_canon']
  frame_out
  rw [canon_eq (S := S256x6656) (e := .bf16) (Val := Elt Ideal) (xs (iblk m c 0 t))]
  rotate_left
  · intro z
    exact congrFun (xs_canon _) z
  rw [canon_eq (S := S2304x4096) (e := .bf16) (Val := Elt Ideal) (stk (iblk m c 0 t))]
  rotate_left
  · intro z
    exact congrFun (stk_canon _) z
  canon_tiles y h
  · rename_i y'
    idx_vars y
    obtain rfl : y0 = 0 := Subsingleton.elim _ _
    obtain rfl : y1 = 0 := Subsingleton.elim _ _
    refine blockVal_at y' 3 y2 y3 h1 h2 h3 ?_
    exact (pay1_eq _ _ _ _ _ _ _ _ _).trans (tail_ld _ _ _ 3 _ _ _ _ (fun k =>
      dilated _ _ _ 3 (by decide) rfl rfl rfl _ _ y3 k _ _ (mask18 y3) (mask46 y3)) y2)
  · rename_i y'
    idx_vars y
    obtain rfl : y0 = 0 := Subsingleton.elim _ _
    obtain rfl : y1 = 0 := Subsingleton.elim _ _
    refine blockVal_at y' 2 y2 y3 h1 h2 h3 ?_
    exact (pay36_eq _ _ _ _ _ _ _ _ _).trans (tail_ld _ _ _ 2 _ _ _ _ (fun k =>
      dilated _ _ _ 2 (by decide) rfl rfl rfl _ _ y3 k _ _ (mask12 y3) (mask52 y3)) y2)
  · rename_i y'
    idx_vars y
    obtain rfl : y0 = 0 := Subsingleton.elim _ _
    obtain rfl : y1 = 0 := Subsingleton.elim _ _
    refine blockVal_at y' 1 y2 y3 h1 h2 h3 ?_
    exact (pay30_eq _ _ _ _ _ _ _ _ _).trans (tail_ld _ _ _ 1 _ _ _ _ (fun k =>
      dilated _ _ _ 1 (by decide) rfl rfl rfl _ _ y3 k _ _ (mask6 y3) (mask58 y3)) y2)
  · rename_i y'
    idx_vars y
    obtain rfl : y0 = 0 := Subsingleton.elim _ _
    obtain rfl : y1 = 0 := Subsingleton.elim _ _
    refine blockVal_at y' 0 y2 y3 h1 h2 h3 ?_
    exact (pay27_eq _ _ _ _ _ _ _).trans (tail_ld _ _ _ 0 _ _ _ _ (fun k => undilated _ _ _ _ y3 k) y2)

end Cert.KernelIdeal.Val

end
-- ==== Proof.Inputs.lean ====
/-
  The arguments of the two programs by name, and what the kernel and the reference each compute from them at one element of the
  result.
-/
module

public import proofs.«01_k».proof.Proof.Fold
public import Idealize.ShloMosaic.Lib.Pointwise

@[expose] public section

noncomputable section

open Idealize.ShloMosaic

namespace Cert.Fold

/-- The small number that is added to every variance. -/
def eps : EReal := Ideal.ofBits FTy.f32 925353388#32

/-- The twenty-six arguments of a program, each read at its indices: the images, the weights of the four branches, the four
    branches' scales, offsets, means and variances, and the same of the last layer. -/
structure Inputs where
  x : Fin 8 → Fin 256 → Fin 64 → Fin 64 → EReal
  w0 : Fin 128 → Fin 256 → EReal
  w : Fin 3 → Fin 128 → Fin 256 → Fin 3 → Fin 3 → EReal
  g : Fin 4 → Fin 128 → EReal
  b : Fin 4 → Fin 128 → EReal
  m : Fin 4 → Fin 128 → EReal
  v : Fin 4 → Fin 128 → EReal
  wp : Fin 128 → Fin 128 → EReal
  gp : Fin 128 → EReal
  bp : Fin 128 → EReal
  mp : Fin 128 → EReal
  vp : Fin 128 → EReal

/-- The arguments by name, from a program's twenty-six arrays in their order. -/
def Inputs.ofArrays (x : FVec Ideal ⟨4, ![8, 256, 64, 64]⟩ .f32) (w0 : FVec Ideal ⟨4, ![128, 256, 1, 1]⟩ .f32)
    (w1 w2 w3 : FVec Ideal ⟨4, ![128, 256, 3, 3]⟩ .f32) (wp : FVec Ideal ⟨4, ![128, 128, 1, 1]⟩ .f32)
    (g0 b0 m0 v0 g1 b1 m1 v1 g2 b2 m2 v2 g3 b3 m3 v3 gp bp mp vp : FVec Ideal ⟨1, ![128]⟩ .f32) : Inputs where
  x n c i j := x (ix4 n c i j)
  w0 k c := w0 (ix4 k c 0 0)
  w
    | 0, k, c, kh, kw => w1 (ix4 k c kh kw)
    | 1, k, c, kh, kw => w2 (ix4 k c kh kw)
    | 2, k, c, kh, kw => w3 (ix4 k c kh kw)
  g
    | 0, k => g0 (ix1 k)
    | 1, k => g1 (ix1 k)
    | 2, k => g2 (ix1 k)
    | 3, k => g3 (ix1 k)
  b
    | 0, k => b0 (ix1 k)
    | 1, k => b1 (ix1 k)
    | 2, k => b2 (ix1 k)
    | 3, k => b3 (ix1 k)
  m
    | 0, k => m0 (ix1 k)
    | 1, k => m1 (ix1 k)
    | 2, k => m2 (ix1 k)
    | 3, k => m3 (ix1 k)
  v
    | 0, k => v0 (ix1 k)
    | 1, k => v1 (ix1 k)
    | 2, k => v2 (ix1 k)
    | 3, k => v3 (ix1 k)
  wp o k := wp (ix4 o k 0 0)
  gp o := gp (ix1 o)
  bp o := bp (ix1 o)
  mp o := mp (ix1 o)
  vp o := vp (ix1 o)

namespace Inputs

variable (I : Inputs)

/-- The factor that a branch's normalization multiplies by. -/
def s (br : Fin 4) (k : Fin 128) : EReal := I.g br k * Ideal.rsqrt (I.v br k + eps)

/-- The factor that the last normalization multiplies by. -/
def sp (o : Fin 128) : EReal := I.gp o * Ideal.rsqrt (I.vp o + eps)

/-- A branch's sum of products in the kernel: every weight is already multiplied by the branch's factor. -/
def kerSum (n : Fin 8) (br : Fin 4) (i j : Fin 64) (k : Fin 128) : EReal :=
  if h : br.val = 0 then ∑ c : Fin 256, I.w0 k c * I.s 0 k * I.x n c i j
  else kerConv (6 * br.val) (I.x n) (fun c kh kw => I.w ⟨br.val - 1, by omega⟩ k c kh kw * I.s br k) 1 i j

/-- The kernel's value of branch `br` at pixel `(i, j)` of image `n`, channel `o`. -/
def kernel (n : Fin 8) (br : Fin 4) (i j : Fin 64) (o : Fin 128) : EReal :=
  lastLayers (fun o k => I.wp o k * I.sp o) (I.kerSum n br i j) (fun k => I.b br k - I.m br k * I.s br k)
    (fun o => I.bp o - I.mp o * I.sp o) o

/-- A branch's sum of products in the reference. -/
def refSum (n : Fin 8) (br : Fin 4) (i j : Fin 64) (k : Fin 128) : EReal :=
  if h : br.val = 0 then ∑ c : Fin 256, I.x n c i j * I.w0 k c
  else refConv (6 * br.val) (I.x n) (fun c kh kw => I.w ⟨br.val - 1, by omega⟩ k c kh kw) i j

/-- A branch of the reference, normalized and cut off at zero. -/
def refBranch (n : Fin 8) (br : Fin 4) (i j : Fin 64) (k : Fin 128) : EReal :=
  max ((I.refSum n br i j k - I.m br k) * I.s br k + I.b br k) 0

/-- The reference's value of branch `br` at pixel `(i, j)` of image `n`, channel `o`. -/
def reference (n : Fin 8) (br : Fin 4) (i j : Fin 64) (o : Fin 128) : EReal :=
  max ((∑ k : Fin 128, I.refBranch n br i j k * I.wp o k - I.mp o) * I.sp o + I.bp o) 0

/-- What the certificate's precondition says of the arguments: all are finite but the last layer's offsets and means, and every
    variance is positive once the small number is added. -/
structure Good : Prop where
  x : ∀ n c i j, Fin' (I.x n c i j)
  w0 : ∀ k c, Fin' (I.w0 k c)
  w : ∀ br k c kh kw, Fin' (I.w br k c kh kw)
  g : ∀ br k, Fin' (I.g br k)
  b : ∀ br k, Fin' (I.b br k)
  m : ∀ br k, Fin' (I.m br k)
  v : ∀ br k, 0 < I.v br k + eps
  wp : ∀ o k, Fin' (I.wp o k)
  gp : ∀ o, Fin' (I.gp o)
  vp : ∀ o, 0 < I.vp o + eps

end Inputs

end Cert.Fold

end
-- ==== Proof.Entry.lean ====
/-
  What the kernel's region finds: the arrays that the host lines before it prepare, at an index, over the program's arguments.
-/
module

public import proofs.«01_k».proof.Proof.Inputs
public import proofs.«01_k».proof.Proof.Gen.KernelIdeal.Frame
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.Fold

variable (m : (ℓ : Loc nD τ sig) → Buf (Elt Ideal) ℓ)

/-- The kernel's arguments by name, at their indices. -/
def inputs (d : Dev nD) : Inputs :=
  Inputs.ofArrays
    (m ((d.tc : Thread nD τ).loc main_arg0)) (m ((d.tc : Thread nD τ).loc main_arg1)) (m ((d.tc : Thread nD τ).loc main_arg2))
    (m ((d.tc : Thread nD τ).loc main_arg3)) (m ((d.tc : Thread nD τ).loc main_arg4)) (m ((d.tc : Thread nD τ).loc main_arg5))
    (m ((d.tc : Thread nD τ).loc main_arg6)) (m ((d.tc : Thread nD τ).loc main_arg7)) (m ((d.tc : Thread nD τ).loc main_arg8))
    (m ((d.tc : Thread nD τ).loc main_arg9)) (m ((d.tc : Thread nD τ).loc main_arg10)) (m ((d.tc : Thread nD τ).loc main_arg11))
    (m ((d.tc : Thread nD τ).loc main_arg12)) (m ((d.tc : Thread nD τ).loc main_arg13)) (m ((d.tc : Thread nD τ).loc main_arg14))
    (m ((d.tc : Thread nD τ).loc main_arg15)) (m ((d.tc : Thread nD τ).loc main_arg16)) (m ((d.tc : Thread nD τ).loc main_arg17))
    (m ((d.tc : Thread nD τ).loc main_arg18)) (m ((d.tc : Thread nD τ).loc main_arg19)) (m ((d.tc : Thread nD τ).loc main_arg20))
    (m ((d.tc : Thread nD τ).loc main_arg21)) (m ((d.tc : Thread nD τ).loc main_arg22)) (m ((d.tc : Thread nD τ).loc main_arg23))
    (m ((d.tc : Thread nD τ).loc main_arg24)) (m ((d.tc : Thread nD τ).loc main_arg25))

/-- The images, each plane's pixels in one row. -/
theorem images (d : Dev nD) (n : Fin 8) (c : Fin 256) (p : Fin 4096) :
    (V m d main_v0 : FVec Ideal S8x256x4096 .f32) (ix3 n c p)
      = (inputs m d).x n c ⟨p.val / 64, by omega⟩ ⟨p.val % 64, by omega⟩ := by
  unfold V V0
  after_reads_at
  rfl

/-- The first branch's weights, multiplied by its factor. -/
theorem pointWeights (d : Dev nD) (k : Fin 128) (c : Fin 256) :
    (V m d main_v106 : FVec Ideal S128x256 .bf16) (ix2 k c) = (inputs m d).w0 k c * (inputs m d).s 0 k := by
  unfold V V0
  after_reads_at
  rfl

/-- A weight times its channel's factor, at two ways of writing the same channels. -/
theorem scaled_congr (W : FVec Ideal S128x256x3x3 .f32) (g v : FVec Ideal S128 .f32) (k k' : Fin 128) (c c' : Fin 256) (kh kw : Fin 3)
    (hk : k'.val = k.val) (hc : c'.val = c.val) :
    ((W (ix4 k' c' kh kw) : EReal) * ((g (ix1 k') : EReal) * Ideal.rsqrt ((v (ix1 k') : EReal) + eps)))
      = (W (ix4 k c kh kw) : EReal) * ((g (ix1 k) : EReal) * Ideal.rsqrt ((v (ix1 k) : EReal) + eps)) := by
  obtain rfl : k' = k := Fin.ext hk
  obtain rfl : c' = c := Fin.ext hc
  rfl

set_option maxHeartbeats 4000000 in
/-- The table of the three dilated branches' weights, each multiplied by its branch's factor: the rows run over branch, tap column
    and output channel, the columns over tap row and input channel. -/
theorem tapWeights (d : Dev nD) (br kh kw : Fin 3) (k : Fin 128) (c : Fin 256) (n : Fin 1152) (q : Fin 768)
    (hn : n.val = 384 * br.val + (128 * kw.val + k.val)) (hq : q.val = kh.val * 256 + c.val) :
    (V m d main_v104 : FVec Ideal S1152x768 .bf16) (ix2 n q) = (inputs m d).w br k c kh kw * (inputs m d).s br.succ k := by
  fin_cases br <;> simp only [Fin.zero_eta, Fin.mk_one, Fin.reduceFinMk, Fin.val_zero, Fin.val_one, Fin.val_two] at hn <;>
  fin_cases kh <;> simp only [Fin.zero_eta, Fin.mk_one, Fin.reduceFinMk, Fin.val_zero, Fin.val_one, Fin.val_two] at hq <;>
  fin_cases kw <;> simp only [Fin.zero_eta, Fin.mk_one, Fin.reduceFinMk, Fin.val_zero, Fin.val_one, Fin.val_two] at hn <;>
  · unfold V V0
    after_reads_at
    repeat first | rw [dif_pos (by omega)] | rw [dif_neg (by omega)]
    after_reads_at
    repeat first | rw [dif_pos (by omega)] | rw [dif_neg (by omega)]
    after_reads_at
    repeat first | rw [dif_pos (by omega)] | rw [dif_neg (by omega)]
    after_reads_at
    exact scaled_congr _ _ _ _ _ _ _ _ _ (by simp only; omega) (by simp only; omega)

/-- The offsets of the four branches, reduced by mean times factor. -/
theorem offsets (d : Dev nD) (br : Fin 4) (k : Fin 128) (l : Fin 128) :
    (V m d main_v113 : FVec Ideal S4x128x128 .f32) (ix3 br k l)
      = (inputs m d).b br k - (inputs m d).m br k * (inputs m d).s br k := by
  fin_cases br <;>
  · unfold V V0
    after_reads_at
    repeat first | rw [dif_pos (by decide)] | rw [dif_neg (by decide)]
    after_reads_at
    rfl

/-- The last layer's weights, multiplied by its factor. -/
theorem lastWeights (d : Dev nD) (o k : Fin 128) :
    (V m d main_v122 : FVec Ideal S128x128 .bf16) (ix2 o k) = (inputs m d).wp o k * (inputs m d).sp o := by
  unfold V V0
  after_reads_at
  rfl

/-- The last layer's offsets, reduced by mean times factor. -/
theorem lastOffsets (d : Dev nD) (o l : Fin 128) :
    (V m d main_v126 : FVec Ideal S128x128 .f32) (ix2 o l) = (inputs m d).bp o - (inputs m d).mp o * (inputs m d).sp o := by
  unfold V V0
  after_reads_at
  rfl

end Cert.KernelIdeal.Val

end
-- ==== Proof.Array.lean ====
/-
  The kernel's output array after the run, and its result after the host lines that interleave the four branches' pixels.
-/
module

public import proofs.«01_k».proof.Proof.Block
public import proofs.«01_k».proof.Proof.Entry
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.Fold

variable (m : (ℓ : Loc nD τ sig) → Buf (Elt Ideal) ℓ)

/-- Which block each window holds at a grid point: images and output one per image, everything else whole. -/
theorem blocks : ∀ t : Fin cfg0.N, win0_0.index t = ![t.val, 0, 0] ∧ win0_1.index t = ![0, 0] ∧ win0_2.index t = ![0, 0]
    ∧ win0_3.index t = ![0, 0, 0] ∧ win0_4.index t = ![0, 0] ∧ win0_5.index t = ![0, 0] ∧ win0_6.index t = ![t.val, 0, 0, 0] :=
  (by decide +kernel : ∀ t : Fin grid0.N, _)

/-- The images' block at a grid point is one image. -/
theorem iblk_images (d : Dev nD) (t : Fin cfg0.N) (c : Fin 256) (p : Fin 4096) :
    (iblk m d 0 t : FVec Ideal S1x256x4096 .f32) (ix3 0 c p) = (V m d main_v0 : FVec Ideal S8x256x4096 .f32) (ix3 t c p) := by
  unfold iblk
  blk_simp
  refine congrArg (V m d main_v0) ?_
  blk_ext [(blocks t).1]

/-- Every other input's block is its whole array. -/
theorem iblk_whole (d : Dev nD) (t : Fin cfg0.N) :
    (∀ y : S1152x768.Idx, iblk m d 1 t y = V m d main_v104 y) ∧ (∀ y : S128x256.Idx, iblk m d 2 t y = V m d main_v106 y)
      ∧ (∀ y : S4x128x128.Idx, iblk m d 3 t y = V m d main_v113 y) ∧ (∀ y : S128x128.Idx, iblk m d 4 t y = V m d main_v122 y)
      ∧ (∀ y : S128x128.Idx, iblk m d 5 t y = V m d main_v126 y) := by
  obtain ⟨-, h1, h2, h3, h4, h5, -⟩ := blocks t
  refine ⟨fun y => ?_, fun y => ?_, fun y => ?_, fun y => ?_, fun y => ?_⟩ <;> unfold iblk <;> blk_simp
  · exact congrArg (V m d main_v104) (by blk_ext [h1])
  · exact congrArg (V m d main_v106) (by blk_ext [h2])
  · exact congrArg (V m d main_v113) (by blk_ext [h3])
  · exact congrArg (V m d main_v122) (by blk_ext [h4])
  · exact congrArg (V m d main_v126) (by blk_ext [h5])

/-- One grid point's block, over the program's arguments. -/
theorem block_inputs (d : Dev nD) (t : Fin cfg0.N) (br : Fin 4) (o : Fin 128) (p : Fin 4096) :
    blockVal (iblk m d 0 t) (iblk m d 1 t) (iblk m d 2 t) (iblk m d 3 t) (iblk m d 4 t) (iblk m d 5 t) br o p
      = (inputs m d).kernel t br ⟨p.val / 64, by omega⟩ ⟨p.val % 64, by omega⟩ o := by
  obtain ⟨h1, h2, h3, h4, h5⟩ := iblk_whole m d t
  have hx : plane (iblk m d 0 t) = (inputs m d).x t := by
    funext c i j
    unfold plane
    refine (iblk_images m d t c _).trans ((images m d t c _).trans ?_)
    congr 1 <;> apply Fin.ext <;> simp only <;> omega
  have ha : accum (iblk m d 0 t) (iblk m d 1 t) (iblk m d 2 t) br p
      = (inputs m d).kerSum t br ⟨p.val / 64, by omega⟩ ⟨p.val % 64, by omega⟩ := by
    funext k
    unfold accum Inputs.kerSum
    rw [hx]
    by_cases h : br.val = 0
    · rw [dif_pos h, dif_pos h]
      refine Finset.sum_congr rfl fun c _ => ?_
      rw [h2, pointWeights]
    · rw [dif_neg h, dif_neg h]
      refine congrArg (fun W => kerConv (6 * br.val) ((inputs m d).x t) W 1 ⟨p.val / 64, by omega⟩ ⟨p.val % 64, by omega⟩) ?_
      funext c kh kw
      rw [h1, tapWeights m d ⟨br.val - 1, by omega⟩ kh kw k c _ _ rfl rfl]
      refine congrArg (fun b => _ * (inputs m d).s b k) (Fin.ext ?_)
      simp only [Fin.val_succ]
      omega
  unfold blockVal Inputs.kernel
  rw [ha]
  have hw : (fun o k => iblk m d 4 t (ix2 o k)) = fun o k => (inputs m d).wp o k * (inputs m d).sp o := by
    funext o k
    rw [h4, lastWeights]
  have hb : (fun k => iblk m d 3 t (ix3 br k 0)) = fun k => (inputs m d).b br k - (inputs m d).m br k * (inputs m d).s br k := by
    funext k
    rw [h3, offsets]
  have hp : (fun o => iblk m d 5 t (ix2 o 0)) = fun o => (inputs m d).bp o - (inputs m d).mp o * (inputs m d).sp o := by
    funext o
    rw [h5, lastOffsets]
  rw [hw, hb, hp]

/-- The output array's element at an index. -/
def arrayVal (I : Inputs) (j : S8x4x128x4096.Idx) : EReal :=
  I.kernel (j 0) (j 1) ⟨(j 3).val / 64, by have := (j 3).isLt; change (j 3).val < 4096 at this; omega⟩ ⟨(j 3).val % 64, by omega⟩ (j 2)

/-- The same at an index written out. -/
theorem arrayVal_ix4 (I : Inputs) (n : Fin 8) (br : Fin 4) (o : Fin 128) (p : Fin 4096) :
    arrayVal I (ix4 n br o p) = I.kernel n br ⟨p.val / 64, by omega⟩ ⟨p.val % 64, by omega⟩ o := rfl

/-- The output array after the run. -/
theorem array (d : Dev nD) : (dats m 0 d).arrAt 6 cfg0.N = arrayVal (inputs m d) := by
  refine (dats m 0 d).arrAt_eq_of_covers 6 _ (by decide +kernel) fun t hf y => ?_
  blk_simp
  rw [after0_6]
  refine (outs_eq m d t y).trans ((block_inputs m d t (y 1) (y 2) (y 3)).trans ?_)
  have e : (win0_6.blk t).view.emb y = (ix4 t (y 1) (y 2) (y 3) : S8x4x128x4096.Idx) := by
    blk_ext [(blocks t).2.2.2.2.2.2]
  exact (congrArg (arrayVal (inputs m d)) e).symm

/-- The buffer that the kernel returns, at row `2 * i + r` and column `2 * j + q`. -/
theorem result (d : Dev nD) (n : Fin 8) (o : Fin 128) (i j : Fin 64) (r q : Fin 2) :
    (Pipeline.afterTail₀ cfgs (dats m) 0 (V0 m) [hostOps1] d main_v131 : FVec Ideal S8x128x128x128 .f32)
        (ix4 n o ⟨2 * i.val + r.val, by omega⟩ ⟨2 * j.val + q.val, by omega⟩)
      = (inputs m d).kernel n ⟨2 * r.val + q.val, by omega⟩ i j o := by
  unfold Pipeline.afterTail₀
  after_reads_at
  refine (congrFun (Pipeline.withArrays_arr spec0 (by decide) d (V0 m d) (fun w => (dats m 0 d).arrAt w (cfgs 0).N) 6) _).trans ?_
  refine (congrFun (array m d) _).trans ?_
  refine (arrayVal_ix4 (inputs m d) _ _ _ _).trans ?_
  congr 1 <;> apply Fin.ext <;> simp only <;> omega

end Cert.KernelIdeal.Val

end
-- ==== Proof.Reference.lean ====
/-
  What the reference's run leaves: the buffer it returns, at an index, over the program's arguments.
-/
module

public import proofs.«01_k».proof.Proof.Inputs
public import proofs.«01_k».proof.Proof.Gen.ReferenceIdeal
public import Idealize.ShloMosaic.Lib.StableHlo.ReadAt
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Cert.Fold

variable (m : (ℓ : Loc nD τ sig) → Buf (Elt Ideal) ℓ)

/-- The reference's operations in order, with the proof that the program is their straight line. -/
def line : { ops : List (HloOp τ sig (Elt Ideal)) // ∀ d, StableHlo.IsSeq (main (F := Ideal) d) ops } := by
  apply Subtype.mk
  hlo_seq

/-- What a buffer holds after the reference's operations. -/
abbrev final (d : Dev nD) (b : Ref sig .tc) : Buf (Elt Ideal) ((d.tc : Thread nD τ).loc b) :=
  StableHlo.after line.1 (StableHlo.launchContents m d) (Proc.devRef .tc b)

/-- The reference's arguments by name, at their indices. -/
def inputs (d : Dev nD) : Inputs :=
  Inputs.ofArrays
    (m ((d.tc : Thread nD τ).loc main_arg0)) (m ((d.tc : Thread nD τ).loc main_arg1)) (m ((d.tc : Thread nD τ).loc main_arg2))
    (m ((d.tc : Thread nD τ).loc main_arg3)) (m ((d.tc : Thread nD τ).loc main_arg4)) (m ((d.tc : Thread nD τ).loc main_arg5))
    (m ((d.tc : Thread nD τ).loc main_arg6)) (m ((d.tc : Thread nD τ).loc main_arg7)) (m ((d.tc : Thread nD τ).loc main_arg8))
    (m ((d.tc : Thread nD τ).loc main_arg9)) (m ((d.tc : Thread nD τ).loc main_arg10)) (m ((d.tc : Thread nD τ).loc main_arg11))
    (m ((d.tc : Thread nD τ).loc main_arg12)) (m ((d.tc : Thread nD τ).loc main_arg13)) (m ((d.tc : Thread nD τ).loc main_arg14))
    (m ((d.tc : Thread nD τ).loc main_arg15)) (m ((d.tc : Thread nD τ).loc main_arg16)) (m ((d.tc : Thread nD τ).loc main_arg17))
    (m ((d.tc : Thread nD τ).loc main_arg18)) (m ((d.tc : Thread nD τ).loc main_arg19)) (m ((d.tc : Thread nD τ).loc main_arg20))
    (m ((d.tc : Thread nD τ).loc main_arg21)) (m ((d.tc : Thread nD τ).loc main_arg22)) (m ((d.tc : Thread nD τ).loc main_arg23))
    (m ((d.tc : Thread nD τ).loc main_arg24)) (m ((d.tc : Thread nD τ).loc main_arg25))

/-- The integer zero that the reference pads with is the number zero. -/
theorem zero_word : (FloatOps.sitofp (F := Ideal) FTy.f32 0#32 : EReal) = 0 := by
  show (((0#32 : BitVec 32).toInt : ℝ) : EReal) = 0
  simp

/-- A pixel at two ways of writing its row and column. -/
theorem pixel (d : Dev nD) (n : Fin 8) (c : Fin 256) (i i' j j' : Fin 64) (hi : i.val = i'.val) (hj : j.val = j'.val) :
    (m ((d.tc : Thread nD τ).loc main_arg0) : FVec Ideal S8x256x64x64 .f32) (ix4 n c i j) = (inputs m d).x n c i' j' := by
  obtain rfl : i = i' := Fin.ext hi
  obtain rfl : j = j' := Fin.ext hj
  rfl

/-- Two sums of nine terms agree when the terms do. -/
theorem nine {a0 a1 a2 a3 a4 a5 a6 a7 a8 b0 b1 b2 b3 b4 b5 b6 b7 b8 : EReal} (h0 : a0 = b0) (h1 : a1 = b1) (h2 : a2 = b2)
    (h3 : a3 = b3) (h4 : a4 = b4) (h5 : a5 = b5) (h6 : a6 = b6) (h7 : a7 = b7) (h8 : a8 = b8) :
    a0 + a1 + a2 + a3 + a4 + a5 + a6 + a7 + a8 = b0 + b1 + b2 + b3 + b4 + b5 + b6 + b7 + b8 := by
  rw [h0, h1, h2, h3, h4, h5, h6, h7, h8]

/-- Two normalized and cut-off sums agree when the sums do. -/
theorem relu_congr {z z' : EReal} (μ s b : EReal) (h : z = z') : max ((z - μ) * s + b) 0 = max ((z' - μ) * s + b) 0 := by
  rw [h]

/-- The first branch at a pixel. -/
theorem point (d : Dev nD) (n : Fin 8) (k : Fin 128) (i j : Fin 64) :
    (final m d main_v16 : FVec Ideal S8x128x64x64 .f32) (ix4 n k i j) = (inputs m d).refBranch n 0 i j k := by
  unfold final
  after_reads_at
  pointwise
  rfl

/-- A dilated branch of the reference, its distance and its weights named. -/
theorem branch_taps (I : Inputs) (n : Fin 8) (t : Fin 3) {δ : ℕ} (hδ : 6 * t.succ.val = δ) (i j : Fin 64) (k : Fin 128) :
    I.refBranch n t.succ i j k
      = max ((refConv δ (I.x n) (I.w t k) i j - I.m t.succ k) * I.s t.succ k + I.b t.succ k) 0 := by
  subst hδ
  unfold Inputs.refBranch Inputs.refSum
  rw [dif_neg (show ¬ t.succ.val = 0 by simp)]
  rfl

set_option maxHeartbeats 8000000 in
/-- The three dilated branches at a pixel. -/
theorem dilated (d : Dev nD) (n : Fin 8) (k : Fin 128) (i j : Fin 64) :
    (final m d main_v59 : FVec Ideal S8x128x64x64 .f32) (ix4 n k i j) = (inputs m d).refBranch n 1 i j k
      ∧ (final m d main_v102 : FVec Ideal S8x128x64x64 .f32) (ix4 n k i j) = (inputs m d).refBranch n 2 i j k
      ∧ (final m d main_v145 : FVec Ideal S8x128x64x64 .f32) (ix4 n k i j) = (inputs m d).refBranch n 3 i j k := by
  refine ⟨Eq.trans ?_ (branch_taps _ n 0 (δ := 6) (by decide) i j k).symm,
    Eq.trans ?_ (branch_taps _ n 1 (δ := 12) (by decide) i j k).symm,
    Eq.trans ?_ (branch_taps _ n 2 (δ := 18) (by decide) i j k).symm⟩ <;>
  · unfold final
    after_reads_at
    pointwise
    refine relu_congr _ _ _ ?_
    unfold refConv refTap
    refine nine ?_ ?_ ?_ ?_ ?_ ?_ ?_ ?_ ?_ <;>
    · refine Finset.sum_congr rfl fun c _ => congrArg₂ (· * ·) ?_ rfl
      unfold padded
      split_ifs <;> first
        | exact zero_word
        | (exfalso; omega)
        | exact pixel m d n c _ _ _ _ (by simp only; omega) (by simp only; omega)

end Cert.ReferenceIdeal.Val

end
-- ==== Proof.Between.lean ====
/-
  The reference run in two parts: the four branches first, then the interleaving of their pixels and the last layer.
-/
module

public import proofs.«01_k».proof.Proof.Reference

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Cert.Fold

variable (m : (ℓ : Loc nD τ sig) → Buf (Elt Ideal) ℓ)

/-- What the buffers hold when the four branches are done and before their pixels are interleaved. -/
def between (d : Dev nD) : Valuation τ sig (Elt Ideal) := StableHlo.upto line.1 (StableHlo.launchContents m d) 164

/-- The reference's operations run to `between` and on from there. -/
theorem final_split (d : Dev nD) (b : Ref sig .tc) :
    final m d b = StableHlo.after (line.1.drop 164) (between m d) (Proc.devRef .tc b) := by
  unfold final between StableHlo.upto
  rw [← StableHlo.after_append, List.take_append_drop]

/-- The branches' values stand in `between` as they end. -/
theorem between_branches (d : Dev nD) :
    between m d (Proc.devRef .tc main_v16) = final m d main_v16 ∧ between m d (Proc.devRef .tc main_v59) = final m d main_v59
      ∧ between m d (Proc.devRef .tc main_v102) = final m d main_v102 ∧ between m d (Proc.devRef .tc main_v145) = final m d main_v145 := by
  refine ⟨?_, ?_, ?_, ?_⟩ <;>
  · rw [final_split]
    generalize between m d = V
    after_reads_simp

/-- The last layer's arguments stand in `between` as the launch gave them. -/
theorem between_args (d : Dev nD) :
    between m d (Proc.devRef .tc main_arg5) = m ((d.tc : Thread nD τ).loc main_arg5)
      ∧ between m d (Proc.devRef .tc main_arg22) = m ((d.tc : Thread nD τ).loc main_arg22)
      ∧ between m d (Proc.devRef .tc main_arg23) = m ((d.tc : Thread nD τ).loc main_arg23)
      ∧ between m d (Proc.devRef .tc main_arg24) = m ((d.tc : Thread nD τ).loc main_arg24)
      ∧ between m d (Proc.devRef .tc main_arg25) = m ((d.tc : Thread nD τ).loc main_arg25) := by
  refine ⟨Eq.trans (b := final m d main_arg5) ?_ ?_, Eq.trans (b := final m d main_arg22) ?_ ?_,
    Eq.trans (b := final m d main_arg23) ?_ ?_, Eq.trans (b := final m d main_arg24) ?_ ?_,
    Eq.trans (b := final m d main_arg25) ?_ ?_⟩
  any_goals
    rw [final_split]
    generalize between m d = V
    after_reads_simp
    done
  all_goals
    unfold final
    after_reads_at

end Cert.ReferenceIdeal.Val

end
-- ==== Proof.RefResult.lean ====
/-
  The reference's result, at an index: the four branches' pixels interleaved, then the last layer.
-/
module

public import proofs.«01_k».proof.Proof.Between

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Cert.Fold

variable (m : (ℓ : Loc nD τ sig) → Buf (Elt Ideal) ℓ)

/-- Two last layers agree when the branches' values do. -/
theorem last_congr {z z' : Fin 128 → EReal} (w : Fin 128 → EReal) (μ s b : EReal) (h : ∀ k, z k = z' k) :
    max ((∑ k, z k * w k - μ) * s + b) 0 = max ((∑ k, z' k * w k - μ) * s + b) 0 := by
  rw [funext h]

/-- Half of a row or column of the result is the branches' row or column. -/
theorem half (a : Fin 64) (r : Fin 2) : (2 * a.val + r.val) / 2 = a.val := by omega

/-- A branch's value at other ways of writing the branch, the row and the column. -/
theorem branch_at {A : FVec Ideal S8x128x64x64 .f32} {I : Inputs} {n : Fin 8} {k : Fin 128} {br br' : Fin 4} {i i' j j' : Fin 64} {e : ℕ}
    (h : A (ix4 n k i j) = I.refBranch n br i j k) (he : br.val = e) (he' : br'.val = e) (hi : i'.val = i.val) (hj : j'.val = j.val) :
    A (ix4 n k i' j') = I.refBranch n br' i j k := by
  obtain rfl : i' = i := Fin.ext hi
  obtain rfl : j' = j := Fin.ext hj
  obtain rfl : br' = br := Fin.ext (he'.trans he.symm)
  exact h

set_option maxHeartbeats 1600000 in
/-- The reference's result at row `2 i + r` and column `2 j + q` is its value of branch `2 r + q` at pixel `(i, j)`. -/
theorem result (d : Dev nD) (n : Fin 8) (o : Fin 128) (i j : Fin 64) (r q : Fin 2) :
    (final m d main_v173 : FVec Ideal S8x128x128x128 .f32)
        (ix4 n o ⟨2 * i.val + r.val, by omega⟩ ⟨2 * j.val + q.val, by omega⟩)
      = (inputs m d).reference n ⟨2 * r.val + q.val, by omega⟩ i j o := by
  rw [final_split]
  obtain ⟨h0, h1, h2, h3⟩ := between_branches m d
  obtain ⟨a0, a1, a2, a3, a4⟩ := between_args m d
  generalize between m d = V at *
  after_reads_at
  pointwise
  simp only [a0, a1, a2, a3, a4]
  unfold Inputs.reference
  refine last_congr _ _ _ _ fun k => ?_
  by_cases hr : r.val = 0 <;> by_cases hq : q.val = 0
  all_goals first
    | rewrite [dif_pos (by omega)]
    | rewrite [dif_neg (by omega)]
  all_goals after_reads_at
  all_goals first
    | rewrite [dif_pos (by omega)]
    | rewrite [dif_neg (by omega)]
  all_goals after_reads_at
  · exact (congrFun h0 _).trans (branch_at (point m d n k i j) rfl (by simp only; omega) (half i r) (half j q))
  · exact (congrFun h1 _).trans (branch_at (dilated m d n k i j).1 rfl (by simp only; omega) (half i r) (half j q))
  · exact (congrFun h2 _).trans (branch_at (dilated m d n k i j).2.1 rfl (by simp only; omega) (half i r) (half j q))
  · exact (congrFun h3 _).trans (branch_at (dilated m d n k i j).2.2 rfl (by simp only; omega) (half i r) (half j q))

end Cert.ReferenceIdeal.Val

end
-- ==== Proof.Equation.lean ====
/-
  The two programs' values are equal wherever the certificate's precondition holds, as an equation about the arguments alone.
-/
module

public import proofs.«01_k».proof.Proof.Inputs

@[expose] public section

noncomputable section

open Idealize.ShloMosaic

namespace Cert.Fold.Inputs

variable {I : Inputs}

/-- A branch's factor is a real number. -/
theorem Good.s (h : I.Good) (br : Fin 4) (k : Fin 128) : Fin' (I.s br k) := (h.g br k).mul (rsqrt_fin (h.v br k))

/-- The last layer's factor is a real number. -/
theorem Good.sp (h : I.Good) (o : Fin 128) : Fin' (I.sp o) := (h.gp o).mul (rsqrt_fin (h.vp o))

/-- A branch's sum of products in the reference is a real number. -/
theorem Good.refSum (h : I.Good) (n : Fin 8) (br : Fin 4) (i j : Fin 64) (k : Fin 128) : Fin' (I.refSum n br i j k) := by
  unfold Inputs.refSum
  split_ifs
  · exact .sum _ fun c => (h.x n c i j).mul (h.w0 k c)
  · exact refConv_fin (h.x n) (fun c kh kw => h.w _ k c kh kw) i j

/-- A branch of the reference is a real number. -/
theorem Good.refBranch (h : I.Good) (n : Fin 8) (br : Fin 4) (i j : Fin 64) (k : Fin 128) : Fin' (I.refBranch n br i j k) :=
  ((((h.refSum n br i j k).sub (h.m br k)).mul (h.s br k)).add (h.b br k)).max .zero

/-- The convolution by weights that are scaled beforehand. -/
theorem kerConv_scaled (d : ℕ) (X : Fin 256 → Fin 64 → Fin 64 → EReal) (W : Fin 256 → Fin 3 → Fin 3 → EReal) (s : EReal)
    (i j : Fin 64) : kerConv d X (fun c kh kw => W c kh kw * s) 1 i j = kerConv d X W s i j := by
  unfold kerConv kerCol
  simp only [mul_one]

/-- The kernel's sum of products is the reference's, scaled. -/
theorem Good.kerSum (h : I.Good) (n : Fin 8) (br : Fin 4) (i j : Fin 64) (k : Fin 128) :
    I.kerSum n br i j k = I.refSum n br i j k * I.s br k := by
  unfold Inputs.kerSum Inputs.refSum
  split_ifs with h0
  · obtain rfl : br = 0 := Fin.ext h0
    exact sum_scaled (fun c => h.x n c i j) (fun c => h.w0 k c) (h.s 0 k)
  · exact (kerConv_scaled _ _ _ _ i j).trans (kerConv_eq (h.x n) (fun c kh kw => h.w _ k c kh kw) (h.s br k) i j)

/-- The kernel's value is the reference's. -/
theorem Good.kernel_eq (h : I.Good) (n : Fin 8) (br : Fin 4) (i j : Fin 64) (o : Fin 128) :
    I.kernel n br i j o = I.reference n br i j o := by
  have hb : ∀ k, max (I.kerSum n br i j k + (I.b br k - I.m br k * I.s br k)) 0 = I.refBranch n br i j k := fun k => by
    rw [h.kerSum, normalize (h.refSum n br i j k) (h.s br k)]
    rfl
  unfold Inputs.kernel Inputs.reference lastLayers
  simp only [hb]
  rw [sum_scaled (fun k => h.refBranch n br i j k) (fun k => h.wp o k) (h.sp o),
    normalize (.sum _ fun k => (h.refBranch n br i j k).mul (h.wp o k)) (h.sp o)]

end Cert.Fold.Inputs

end
-- ==== Proof.Agree.lean ====
/-
  The two programs' results are one array, where the arguments agree and the precondition holds.
-/
module

public import proofs.«01_k».proof.Proof.Array
public import proofs.«01_k».proof.Proof.RefResult
public import proofs.«01_k».proof.Proof.Equation

@[expose] public section

set_option maxRecDepth 16384

noncomputable section

open Idealize.ShloMosaic Idealize.ShloMosaic.TcCoe Idealize.SL.Sem

namespace Cert.Agree

open Cert.Fold

/-- A result's array at every index, from its values at the rows `2 i + r` and the columns `2 j + q`. -/
theorem ext_pixels {A B : FVec Ideal ⟨4, ![8, 128, 128, 128]⟩ .f32}
    (h : ∀ (n : Fin 8) (o : Fin 128) (i j : Fin 64) (r q : Fin 2),
      A (ix4 n o ⟨2 * i.val + r.val, by omega⟩ ⟨2 * j.val + q.val, by omega⟩)
        = B (ix4 n o ⟨2 * i.val + r.val, by omega⟩ ⟨2 * j.val + q.val, by omega⟩)) : A = B := by
  have hrow : ∀ a : Fin 128, ∃ (i : Fin 64) (r : Fin 2), a = ⟨2 * i.val + r.val, by omega⟩ := fun a =>
    ⟨⟨a.val / 2, by omega⟩, ⟨a.val % 2, by omega⟩, Fin.ext (by simp only; omega)⟩
  have key : ∀ (n : Fin 8) (o a b : Fin 128), A (ix4 n o a b) = B (ix4 n o a b) := fun n o a b => by
    obtain ⟨i, r, rfl⟩ := hrow a
    obtain ⟨j, q, rfl⟩ := hrow b
    exact h n o i j r q
  funext x
  rw [eq_ix4 x]
  exact key _ _ _ _

/-- The kernel's result is the reference's. -/
theorem results (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (d : Dev KernelIdeal.nD)
    (hin : ReferenceIdeal.Val.inputs m' d = KernelIdeal.Val.inputs m d) (hgood : (KernelIdeal.Val.inputs m d).Good) :
    (ReferenceIdeal.Val.final m' d ReferenceIdeal.main_v173 : FVec Ideal ⟨4, ![8, 128, 128, 128]⟩ .f32)
      = (Pipeline.afterTail₀ KernelIdeal.cfgs (KernelIdeal.Gen.dats m) 0 (KernelIdeal.Gen.V0 m) [KernelIdeal.Gen.hostOps1] d
          KernelIdeal.main_v131 : FVec Ideal ⟨4, ![8, 128, 128, 128]⟩ .f32) := by
  refine ext_pixels fun n o i j r q => ?_
  refine (ReferenceIdeal.Val.result m' d n o i j r q).trans ?_
  rw [hin]
  exact (hgood.kernel_eq n _ i j o).symm.trans (KernelIdeal.Val.result m d n o i j r q).symm

end Cert.Agree

end
-- ==== Proof.Precondition.lean ====
/-
  What the certificate's precondition says of the arguments, read from its printed form.
-/
module

public import proofs.«01_k».proof.Proof.Gen.Pre_finite_and_positive
public import proofs.«01_k».proof.Proof.Inputs
public import Idealize.ShloMosaic.Lib.ReduceAll

@[expose] public section

set_option maxRecDepth 16384

noncomputable section

open Idealize.ShloMosaic

namespace Cert.Pre_finite_and_positive.Val

open Cert.Pre_finite_and_positive Cert.Pre_finite_and_positive.Gen Cert.Fold

/-- The one index of an array of no axes. -/
abbrev at0 : S_.Idx := fun a => a.elim0

instance : Subsingleton S_.Idx := ⟨fun _ _ => funext fun a => a.elim0⟩

/-- A truth value made of two is 1 exactly when both are. -/
theorem andi_one (a b : IVec S_ 1) : andi a b at0 = 1#1 ↔ a at0 = 1#1 ∧ b at0 = 1#1 := IntOp.andi_eq_one

/-- An extended real whose absolute value is below the top one is a real number. -/
theorem finite_of_abs {y : EReal} (h : max y (-y) < ⊤) : Fin' y := by
  induction y with
  | bot => simp at h
  | top => simp at h
  | coe r => exact ⟨r, rfl⟩

/-- A truth value of a comparison is 1 only when the comparison holds. -/
theorem of_ofBool {p : Prop} [Decidable p] (h : BitVec.ofBool (decide p) = 1#1) : p := by
  by_cases hp : p
  · exact hp
  · rw [decide_eq_false hp] at h
    exact absurd h (by decide)

/-- The word that the precondition compares absolute values with is the top extended real. -/
theorem top_word : Ideal.ofBits .f32 0x7F800000#32 = ⊤ := by simp [Ideal.ofBits, Ideal.ieee]

/-- The word that the precondition compares variances with is zero. -/
theorem zero_word : Ideal.ofBits .f32 0x00000000#32 = 0 := by simp [Ideal.ofBits, Ideal.ieee]

/-- "All absolute values are below infinity" says that all entries are real numbers. -/
theorem all_finite {s : Shape} {axes : List (Fin s.rank)} (x : FVec Ideal s .f32) (hb : S_.BroadcastsInDim s (![] : Fin 0 → Fin s.rank))
    (h : s.ReducesTo axes S_) (hu : 0 < S_.numel)
    (e : Host.reduce IntOp.andi (cmpf .olt (Host.absf x) (broadcastInDim s ![] hb (constant (F := Ideal) S_ .f32 0x7F800000#32)))
      (constantI S_ 1 1#1) h hu at0 = 1#1) (i : s.Idx) : Fin' (x i) := by
  have hi : Ideal.cmp .olt (max (x i) (-(x i))) (Ideal.ofBits .f32 0x7F800000#32) = 1#1 :=
    Host.reduce_andi_all _ _ h hu at0 e i
  rw [top_word] at hi
  exact finite_of_abs (of_ofBool hi)

/-- "All variances plus the small number are above zero", entry by entry. -/
theorem all_positive {s : Shape} {axes : List (Fin s.rank)} (v : FVec Ideal s .f32) (hb : S_.BroadcastsInDim s (![] : Fin 0 → Fin s.rank))
    (h : s.ReducesTo axes S_) (hu : 0 < S_.numel)
    (e : Host.reduce IntOp.andi (cmpf .ogt (addf v (broadcastInDim s ![] hb (constant (F := Ideal) S_ .f32 0x3727C5AC#32)))
      (broadcastInDim s ![] hb (constant (F := Ideal) S_ .f32 0x00000000#32))) (constantI S_ 1 1#1) h hu at0 = 1#1) (i : s.Idx) :
    0 < v i + eps := by
  have hi : Ideal.cmp .ogt (v i + eps) (Ideal.ofBits .f32 0x00000000#32) = 1#1 :=
    Host.reduce_andi_all _ _ h hu at0 e i
  rw [zero_word] at hi
  exact of_ofBool hi

set_option maxHeartbeats 1600000 in
/-- Where the precondition holds, the arguments are good. -/
theorem good (x : FVec Ideal S8x256x64x64 .f32) (w0 : FVec Ideal S128x256x1x1 .f32) (w1 w2 w3 : FVec Ideal S128x256x3x3 .f32)
    (wp : FVec Ideal S128x128x1x1 .f32)
    (g0 b0 m0 v0 g1 b1 m1 v1 g2 b2 m2 v2 g3 b3 m3 v3 gp bp mp vp : FVec Ideal S128 .f32)
    (h : fn (F := Ideal) x w0 w1 w2 w3 wp g0 b0 m0 v0 g1 b1 m1 v1 g2 b2 m2 v2 g3 b3 m3 v3 gp bp mp vp = fun _ => 1#1) :
    (Inputs.ofArrays x w0 w1 w2 w3 wp g0 b0 m0 v0 g1 b1 m1 v1 g2 b2 m2 v2 g3 b3 m3 v3 gp bp mp vp).Good := by
  have h := congrFun h at0
  simp only [fn, fn_part1, fn_part2, fn_part3, fn_part4, fn_part5, fn_part6, fn_part7, andi_one] at h
  have hvp := h.2
  replace h := h.1
  have hv3 := h.2
  replace h := h.1
  have hv2 := h.2
  replace h := h.1
  have hv1 := h.2
  replace h := h.1
  have hv0 := h.2
  replace h := h.1
  have hgp := h.2
  replace h := h.1
  have hm3 := h.2
  replace h := h.1
  have hb3 := h.2
  replace h := h.1
  have hg3 := h.2
  replace h := h.1
  have hm2 := h.2
  replace h := h.1
  have hb2 := h.2
  replace h := h.1
  have hg2 := h.2
  replace h := h.1
  have hm1 := h.2
  replace h := h.1
  have hb1 := h.2
  replace h := h.1
  have hg1 := h.2
  replace h := h.1
  have hm0 := h.2
  replace h := h.1
  have hb0 := h.2
  replace h := h.1
  have hg0 := h.2
  replace h := h.1
  have hwp := h.2
  replace h := h.1
  have hw3 := h.2
  replace h := h.1
  have hw2 := h.2
  replace h := h.1
  have hw1 := h.2
  replace h := h.1
  have hw0 := h.2
  replace h := h.1
  have hx := h
  exact
    { x := fun n c i j => all_finite _ _ _ _ hx _
      w0 := fun k c => all_finite _ _ _ _ hw0 _
      w := fun
        | 0, k, c, kh, kw => all_finite _ _ _ _ hw1 (ix4 k c kh kw)
        | 1, k, c, kh, kw => all_finite _ _ _ _ hw2 (ix4 k c kh kw)
        | 2, k, c, kh, kw => all_finite _ _ _ _ hw3 (ix4 k c kh kw)
      g := fun
        | 0, k => all_finite _ _ _ _ hg0 (ix1 k)
        | 1, k => all_finite _ _ _ _ hg1 (ix1 k)
        | 2, k => all_finite _ _ _ _ hg2 (ix1 k)
        | 3, k => all_finite _ _ _ _ hg3 (ix1 k)
      b := fun
        | 0, k => all_finite _ _ _ _ hb0 (ix1 k)
        | 1, k => all_finite _ _ _ _ hb1 (ix1 k)
        | 2, k => all_finite _ _ _ _ hb2 (ix1 k)
        | 3, k => all_finite _ _ _ _ hb3 (ix1 k)
      m := fun
        | 0, k => all_finite _ _ _ _ hm0 (ix1 k)
        | 1, k => all_finite _ _ _ _ hm1 (ix1 k)
        | 2, k => all_finite _ _ _ _ hm2 (ix1 k)
        | 3, k => all_finite _ _ _ _ hm3 (ix1 k)
      v := fun
        | 0, k => all_positive _ _ _ _ hv0 (ix1 k)
        | 1, k => all_positive _ _ _ _ hv1 (ix1 k)
        | 2, k => all_positive _ _ _ _ hv2 (ix1 k)
        | 3, k => all_positive _ _ _ _ hv3 (ix1 k)
      wp := fun o k => all_finite _ _ _ _ hwp _
      gp := fun o => all_finite _ _ _ _ hgp _
      vp := fun o => all_positive _ _ _ _ hvp _ }

end Cert.Pre_finite_and_positive.Val

end
-- ==== Proof.RefRun.lean ====
/-
  The reference's run: every buffer ends at what its operations compute, and the arguments end unchanged.
-/
module

public import proofs.«01_k».proof.Proof.Reference
public import Idealize.ShloMosaic.Lib.Claim

@[expose] public section

set_option maxRecDepth 16384

noncomputable section

open Idealize.ShloMosaic Idealize.ShloMosaic.TcCoe Idealize.SL.Sem

namespace Cert.ReferenceIdeal.Val

open Cert.ReferenceIdeal Cert.ReferenceIdeal.Gen

variable (m : (ℓ : Loc nD τ sig) → Buf (Elt Ideal) ℓ)

set_option maxHeartbeats 4000000 in
/-- Every execution of the reference ends with every buffer at `final`. -/
theorem run (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = final m d b :=
  StableHlo.run_hlo defs main line.2 (by decide) (by decide) (by unfold line; simp)
    (by intro _ h; (repeat (cases h with | head => rfl | tail _ h => ?_)); exact nomatch h) m ρ

set_option maxHeartbeats 8000000 in
/-- No operation of the reference writes an argument. -/
theorem args (d : Dev nD) :
    final m d main_arg0 = m ((d.tc : Thread nD τ).loc main_arg0)
      ∧ final m d main_arg1 = m ((d.tc : Thread nD τ).loc main_arg1)
      ∧ final m d main_arg2 = m ((d.tc : Thread nD τ).loc main_arg2)
      ∧ final m d main_arg3 = m ((d.tc : Thread nD τ).loc main_arg3)
      ∧ final m d main_arg4 = m ((d.tc : Thread nD τ).loc main_arg4)
      ∧ final m d main_arg5 = m ((d.tc : Thread nD τ).loc main_arg5)
      ∧ final m d main_arg6 = m ((d.tc : Thread nD τ).loc main_arg6)
      ∧ final m d main_arg7 = m ((d.tc : Thread nD τ).loc main_arg7)
      ∧ final m d main_arg8 = m ((d.tc : Thread nD τ).loc main_arg8)
      ∧ final m d main_arg9 = m ((d.tc : Thread nD τ).loc main_arg9)
      ∧ final m d main_arg10 = m ((d.tc : Thread nD τ).loc main_arg10)
      ∧ final m d main_arg11 = m ((d.tc : Thread nD τ).loc main_arg11)
      ∧ final m d main_arg12 = m ((d.tc : Thread nD τ).loc main_arg12)
      ∧ final m d main_arg13 = m ((d.tc : Thread nD τ).loc main_arg13)
      ∧ final m d main_arg14 = m ((d.tc : Thread nD τ).loc main_arg14)
      ∧ final m d main_arg15 = m ((d.tc : Thread nD τ).loc main_arg15)
      ∧ final m d main_arg16 = m ((d.tc : Thread nD τ).loc main_arg16)
      ∧ final m d main_arg17 = m ((d.tc : Thread nD τ).loc main_arg17)
      ∧ final m d main_arg18 = m ((d.tc : Thread nD τ).loc main_arg18)
      ∧ final m d main_arg19 = m ((d.tc : Thread nD τ).loc main_arg19)
      ∧ final m d main_arg20 = m ((d.tc : Thread nD τ).loc main_arg20)
      ∧ final m d main_arg21 = m ((d.tc : Thread nD τ).loc main_arg21)
      ∧ final m d main_arg22 = m ((d.tc : Thread nD τ).loc main_arg22)
      ∧ final m d main_arg23 = m ((d.tc : Thread nD τ).loc main_arg23)
      ∧ final m d main_arg24 = m ((d.tc : Thread nD τ).loc main_arg24)
      ∧ final m d main_arg25 = m ((d.tc : Thread nD τ).loc main_arg25) := by
  and_intros <;>
  · unfold final
    after_reads_at

end Cert.ReferenceIdeal.Val

end
-- ==== Proof.lean ====
/-
  The certificate: the kernel and the reference run, leave their arguments as they were and end with every counter at zero,
  and where the arguments are finite and the variances positive the two results are one array of extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_and_positive
public import proofs.«01_k».proof.Proof.Agree
public import proofs.«01_k».proof.Proof.Precondition
public import proofs.«01_k».proof.Proof.RefRun
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference runs, its arguments end unchanged, and every counter ends at zero. -/
theorem reference : Cert.quiescent_ReferenceIdeal (hReferenceIdeal := ReferenceIdeal.Gen.facts) := by
  intro m g _
  refine θ_run_mono (ReferenceIdeal.Val.run m g) fun r hr => ⟨fun c => ?_, sem_eq_zero_of_no_sems (by decide) r.2⟩
  simp only [hr]
  exact ReferenceIdeal.Val.args m c

set_option maxHeartbeats 4000000 in
/-- Where the precondition holds and the arguments agree, the reference ends with the array that the kernel ends with. -/
theorem algebraic : Cert.algebraic_KernelIdeal_ReferenceIdeal_pre_finite_and_positive (hKernelIdeal := KernelIdeal.Gen.facts)
    (hReferenceIdeal := ReferenceIdeal.Gen.facts) (hPre_finite_and_positive := Pre_finite_and_positive.Gen.facts) := by
  intro m g m' g' hpre hagree
  have hin : ∀ c, ReferenceIdeal.Val.inputs m' c = KernelIdeal.Val.inputs m c := fun c => by
    unfold ReferenceIdeal.Val.inputs KernelIdeal.Val.inputs
    simp only [hagree c]
  have hgood : ∀ c, (KernelIdeal.Val.inputs m c).Good := fun c =>
    Pre_finite_and_positive.Val.good _ _ _ _ _ _ _ _ _ _ _ _ _ _ _ _ _ _ _ _ _ _ _ _ _ _ (hpre c)
  refine ⟨fun c => Pipeline.afterTail₀ KernelIdeal.cfgs (KernelIdeal.Gen.dats m) 0 (KernelIdeal.Gen.V0 m) [KernelIdeal.Gen.hostOps1] c
    KernelIdeal.main_v131, ?_, ?_⟩
  · exact θ_run_mono (θ_run_and (KernelIdeal.Gen.run_main m g) (KernelIdeal.Gen.unchanged m g)) fun r hr c =>
      ⟨(hr.1 c).2 KernelIdeal.main_v131 (by decide), hr.2 c⟩
  · refine θ_run_mono (ReferenceIdeal.Val.run m' g') fun r hr c => ⟨(hr c _).trans (Agree.results m m' c (hin c) (hgood c)), ?_⟩
    simp only [hr]
    exact ReferenceIdeal.Val.args m' c

/-- Everything that the certificate claims. -/
theorem claim : Cert.Claim := ⟨Cert.Kernel.Gen.facts, Cert.KernelIdeal.Gen.facts, Cert.ReferenceIdeal.Gen.facts, Cert.Pre_finite_and_positive.Gen.facts,
  fun m g _ => Kernel.Gen.frame m g, fun m g _ => KernelIdeal.Gen.frame m g, fun m g _ => KernelIdeal.Gen.frame m g,
  reference, fun m g _ => reference m g trivial, trivial, algebraic⟩

end Cert.Proof

end
